-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v39) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x4096x2048 : Shape := ⟨3, ![4, 4096, 2048]⟩
abbrev S4x4096x4096 : Shape := ⟨3, ![4, 4096, 4096]⟩
abbrev S8x192 : Shape := ⟨2, ![8, 192]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S8x192 : S_.BroadcastsInDim S8x192 (![] : Fin 0 → Fin S8x192.rank)
  reducesTo_S8x192_S_d0_1 : S8x192.ReducesTo [0, 1] S_

variable [Facts]

def fn {F : FTy → Type} [FloatOps F] (main_arg0 : FVec F S4x4096x2048 .bf16) (main_arg1 : FVec F S4x4096x4096 .bf16) (main_arg2 : FVec F S8x192 .f32) : IVec S_ 1 :=
  let main_v0 : FVec F S4x4096x2048 .f32 := (extf .f32 · bitsLt_bf16_f32) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S8x192 .f32 := Host.absf main_arg2
  let main_cst_0 : FVec F S_ .f32 := constant S_ .f32 0x7F800000#32
  let main_v6 : FVec F S8x192 .f32 := broadcastInDim S8x192 ![] bcast_S_S8x192 main_cst_0
  let main_v7 : IVec S8x192 1 := cmpf .olt main_v5 main_v6
  let main_c_1 : IVec S_ 1 := constantI S_ 1 1#1
  let main_v8 : IVec S_ 1 := (fun x v => Host.reduce IntOp.andi x v reducesTo_S8x192_S_d0_1 h_S_) main_v7 main_c_1
  let main_v9 : IVec S_ 1 := andi main_v4 main_v8
  main_v9
-- ==== Kernel.lean ====
abbrev S4x4096x2048 : Shape := ⟨3, ![4, 4096, 2048]⟩
abbrev S4x4096x4096 : Shape := ⟨3, ![4, 4096, 4096]⟩
abbrev S8x192 : Shape := ⟨2, ![8, 192]⟩
abbrev S8x1 : Shape := ⟨2, ![8, 1]⟩
abbrev S8x385 : Shape := ⟨2, ![8, 385]⟩
abbrev S8x191 : Shape := ⟨2, ![8, 191]⟩
abbrev S8x65 : Shape := ⟨2, ![8, 65]⟩
abbrev S8x383 : Shape := ⟨2, ![8, 383]⟩
abbrev S8x1024 : Shape := ⟨2, ![8, 1024]⟩
abbrev S8x1x1024 : Shape := ⟨3, ![8, 1, 1024]⟩
abbrev S4x4096x1024 : Shape := ⟨3, ![4, 4096, 1024]⟩
abbrev S1x4096x128 : Shape := ⟨3, ![1, 4096, 128]⟩
abbrev S1x1x1024 : Shape := ⟨3, ![1, 1, 1024]⟩
abbrev S128x640 : Shape := ⟨2, ![128, 640]⟩
abbrev S1x1024 : Shape := ⟨2, ![1, 1024]⟩
abbrev S128x1024 : Shape := ⟨2, ![128, 1024]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x384x128 : Shape := ⟨3, ![1, 384, 128]⟩
abbrev S384x128 : Shape := ⟨2, ![384, 128]⟩
abbrev S128x384 : Shape := ⟨2, ![128, 384]⟩
abbrev S1x512x128 : Shape := ⟨3, ![1, 512, 128]⟩
abbrev S512x128 : Shape := ⟨2, ![512, 128]⟩
abbrev S128x512 : Shape := ⟨2, ![128, 512]⟩
abbrev S128 : Shape := ⟨1, ![128]⟩
abbrev S128x1 : Shape := ⟨2, ![128, 1]⟩
abbrev S1x640x128 : Shape := ⟨3, ![1, 640, 128]⟩
abbrev S640x128 : Shape := ⟨2, ![640, 128]⟩

abbrev nBuf : Space → Nat
  | .hbm => 14
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x4096, .bf16⟩
  | .hbm, ⟨2, _⟩ => ⟨S8x192, .f32⟩
  | .hbm, ⟨3, _⟩ => ⟨S8x1, .f32⟩
  | .hbm, ⟨4, _⟩ => ⟨S8x385, .f32⟩
  | .hbm, ⟨5, _⟩ => ⟨S8x191, .f32⟩
  | .hbm, ⟨6, _⟩ => ⟨S8x191, .f32⟩
  | .hbm, ⟨7, _⟩ => ⟨S8x1, .f32⟩
  | .hbm, ⟨8, _⟩ => ⟨S8x65, .f32⟩
  | .hbm, ⟨9, _⟩ => ⟨S8x1, .f32⟩
  | .hbm, ⟨10, _⟩ => ⟨S8x383, .f32⟩
  | .hbm, ⟨11, _⟩ => ⟨S8x1024, .f32⟩
  | .hbm, ⟨12, _⟩ => ⟨S8x1x1024, .f32⟩
  | .hbm, ⟨13, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x4096x128, .bf16⟩
  | .local _ .vmem, ⟨9, _⟩ => ⟨S1x4096x128, .bf16⟩
  | .local _ .vmem, ⟨10, _⟩ => ⟨S128x640, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_71 : BitVec 32 := 0#32
  let c7_i32 : BitVec 32 := 7#32
  let v107 : BitVec 32 := Scalar.addi c0_i32_71 c7_i32
  let c1_i32 : BitVec 32 := 1#32
  ⟨c0_i32_71, v107, c1_i32⟩
def k0_mult1 (k0_t1 : Fin k0_t1_loop.trips) : BitVec 32 :=
  let c4_i32_73 : BitVec 32 := 4#32
  let c0_i32_71 : BitVec 32 := 0#32
  let c1_i32 : BitVec 32 := 1#32
  let arg8 : BitVec 32 := Scf.iv c0_i32_71 c1_i32 k0_t1
  let c4_i32 : BitVec 32 := 4#32
  let v108 : BitVec 32 := Scalar.muli arg8 c4_i32
  let v109 : BitVec 32 := Scalar.addi c4_i32_73 v108
  let c128_i32 : BitVec 32 := 128#32
  let v110 : BitVec 32 := Scalar.muli v109 c128_i32
  v110
def k0_off1 (k0_t1 : Fin k0_t1_loop.trips) (c0_i32_74 : BitVec 32) : Fin 3 → Nat :=
  let c0_83 : Index := 0#32
  let c4_i32_73 : BitVec 32 := 4#32
  let c0_i32_71 : BitVec 32 := 0#32
  let c1_i32 : BitVec 32 := 1#32
  let arg8 : BitVec 32 := Scf.iv c0_i32_71 c1_i32 k0_t1
  let c4_i32 : BitVec 32 := 4#32
  let v108 : BitVec 32 := Scalar.muli arg8 c4_i32
  let v109 : BitVec 32 := Scalar.addi c4_i32_73 v108
  let c128_i32 : BitVec 32 := 128#32
  let v110 : BitVec 32 := Scalar.muli v109 c128_i32
  let v111 : BitVec 32 := v110
  let v112 : BitVec 32 := Scalar.addi v111 c0_i32_74
  let v124 : Index := Scalar.indexCast v112
  let c0_84 : Index := 0#32
  ![0, v124.toNat, 0]
def k0_off2 (k0_t1 : Fin k0_t1_loop.trips) (c0_i32_75 : BitVec 32) : Fin 3 → Nat :=
  let c0_85 : Index := 0#32
  let c4_i32_73 : BitVec 32 := 4#32
  let c0_i32_71 : BitVec 32 := 0#32
  let c1_i32 : BitVec 32 := 1#32
  let arg8 : BitVec 32 := Scf.iv c0_i32_71 c1_i32 k0_t1
  let c4_i32 : BitVec 32 := 4#32
  let v108 : BitVec 32 := Scalar.muli arg8 c4_i32
  let v109 : BitVec 32 := Scalar.addi c4_i32_73 v108
  let c128_i32 : BitVec 32 := 128#32
  let v110 : BitVec 32 := Scalar.muli v109 c128_i32
  let v111 : BitVec 32 := v110
  let v113 : BitVec 32 := Scalar.addi v111 c0_i32_75
  let c512_i32 : BitVec 32 := 512#32
  let v114 : BitVec 32 := Scalar.subi v113 c512_i32
  let v127 : Index := Scalar.indexCast v114
  let c0_86 : Index := 0#32
  ![0, v127.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S4x4096x2048 : Shape := ⟨3, ![4, 4096, 2048]⟩
abbrev S4x4096x4096 : Shape := ⟨3, ![4, 4096, 4096]⟩
abbrev S8x192 : Shape := ⟨2, ![8, 192]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x8x64x64x128 : Shape := ⟨5, ![4, 8, 64, 64, 128]⟩
abbrev S_ : Shape := ⟨0, ![]⟩
abbrev S4x8x4608x128 : Shape := ⟨4, ![4, 8, 4608, 128]⟩
abbrev S4x8x72x64x128 : Shape := ⟨5, ![4, 8, 72, 64, 128]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S4x8x64x9x64x128 : Shape := ⟨6, ![4, 8, 64, 9, 64, 128]⟩
abbrev S4x8x64x576x128 : Shape := ⟨5, ![4, 8, 64, 576, 128]⟩
abbrev S4x8x64x64x576 : Shape := ⟨5, ![4, 8, 64, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S1x1x64x1x576 : Shape := ⟨5, ![1, 1, 64, 1, 576]⟩
abbrev S4x8x64x64 : Shape := ⟨4, ![4, 8, 64, 64]⟩
abbrev S4x8x64x64x1 : Shape := ⟨5, ![4, 8, 64, 64, 1]⟩

abbrev nBuf : Space → Nat
  | .hbm => 129
  | .vmem => 0
  | .smem => 0
  | _ => 0

abbrev hbmTy0_0 (i : Nat) : BufTy := match i % 128 with
  | 0 => ⟨S4x4096x2048, .bf16⟩
  | 1 => ⟨S4x4096x4096, .bf16⟩
  | 2 => ⟨S8x192, .f32⟩
  | 3 => ⟨S4x4096x2048, .f32⟩
  | 4 => ⟨S4x4096x4096, .f32⟩
  | 5 => ⟨S4x4096x1024, .f32⟩
  | 6 => ⟨S4x4096x1024, .f32⟩
  | 7 => ⟨S4x4096x1024, .f32⟩
  | 8 => ⟨S4x4096x8x128, .f32⟩
  | 9 => ⟨S4x8x4096x128, .f32⟩
  | 10 => ⟨S4x4096x8x128, .f32⟩
  | 11 => ⟨S4x8x4096x128, .f32⟩
  | 12 => ⟨S4x4096x8x128, .f32⟩
  | 13 => ⟨S4x8x4096x128, .f32⟩
  | 14 => ⟨S4x8x64x64x128, .f32⟩
  | 15 => ⟨S_, .i32⟩
  | 16 => ⟨S_, .f32⟩
  | 17 => ⟨S4x8x4608x128, .f32⟩
  | 18 => ⟨S4x8x72x64x128, .f32⟩
  | 19 => ⟨S_, .i32⟩
  | 20 => ⟨S_, .f32⟩
  | 21 => ⟨S4x8x4608x128, .f32⟩
  | 22 => ⟨S4x8x72x64x128, .f32⟩
  | 23 => ⟨S64, .i32⟩
  | 24 => ⟨S64x1, .i32⟩
  | 25 => ⟨S9, .i32⟩
  | 26 => ⟨S1x9, .i32⟩
  | 27 => ⟨S64x9, .i32⟩
  | 28 => ⟨S64x9, .i32⟩
  | 29 => ⟨S64x9, .i32⟩
  | 30 => ⟨S_, .i32⟩
  | 31 => ⟨S64x9, .i32⟩
  | 32 => ⟨S64x9, .i1⟩
  | 33 => ⟨S_, .i32⟩
  | 34 => ⟨S64x9, .i32⟩
  | 35 => ⟨S64x9, .i32⟩
  | 36 => ⟨S64x9, .i32⟩
  | 37 => ⟨S64x9x1, .i32⟩
  | 38 => ⟨S4x8x64x9x64x128, .f32⟩
  | 39 => ⟨S4x8x64x576x128, .f32⟩
  | 40 => ⟨S_, .i32⟩
  | 41 => ⟨S64x9, .i32⟩
  | 42 => ⟨S64x9, .i1⟩
  | 43 => ⟨S_, .i32⟩
  | 44 => ⟨S64x9, .i32⟩
  | 45 => ⟨S64x9, .i32⟩
  | 46 => ⟨S64x9, .i32⟩
  | 47 => ⟨S64x9x1, .i32⟩
  | 48 => ⟨S4x8x64x9x64x128, .f32⟩
  | 49 => ⟨S4x8x64x576x128, .f32⟩
  | 50 => ⟨S4x8x64x64x576, .f32⟩
  | 51 => ⟨S_, .f32⟩
  | 52 => ⟨S_, .f32⟩
  | 53 => ⟨S4x8x64x64x576, .f32⟩
  | 54 => ⟨S4x8x64x64x576, .f32⟩
  | 55 => ⟨S64, .i32⟩
  | 56 => ⟨S64x1, .i32⟩
  | 57 => ⟨S_, .i32⟩
  | 58 => ⟨S64x1, .i32⟩
  | 59 => ⟨S64x1, .i32⟩
  | 60 => ⟨S576, .i32⟩
  | 61 => ⟨S1x576, .i32⟩
  | 62 => ⟨S64x576, .i32⟩
  | 63 => ⟨S64x576, .i32⟩
  | 64 => ⟨S64x576, .i32⟩
  | 65 => ⟨S_, .i32⟩
  | 66 => ⟨S_, .i32⟩
  | 67 => ⟨S_, .i32⟩
  | 68 => ⟨S64x576, .i32⟩
  | 69 => ⟨S64x576, .i32⟩
  | 70 => ⟨S_, .i32⟩
  | 71 => ⟨S64x576, .i32⟩
  | 72 => ⟨S64x576, .i32⟩
  | 73 => ⟨S_, .i32⟩
  | 74 => ⟨S64x576, .i32⟩
  | 75 => ⟨S64x576, .i32⟩
  | 76 => ⟨S_, .i32⟩
  | 77 => ⟨S64x576, .i32⟩
  | 78 => ⟨S64x576, .i1⟩
  | 79 => ⟨S_, .i32⟩
  | 80 => ⟨S64x576, .i32⟩
  | 81 => ⟨S64x576, .i32⟩
  | 82 => ⟨S64x576, .i32⟩
  | 83 => ⟨S64x576x1, .i32⟩
  | 84 => ⟨S8x64x576, .f32⟩
  | 85 => ⟨S1x8x1x64x576, .f32⟩
  | 86 => ⟨S4x8x64x64x576, .f32⟩
  | 87 => ⟨S4x8x64x64x576, .f32⟩
  | 88 => ⟨S64, .i32⟩
  | 89 => ⟨S64x1, .i32⟩
  | 90 => ⟨S_, .i32⟩
  | 91 => ⟨S64x1, .i32⟩
  | 92 => ⟨S64x1, .i32⟩
  | 93 => ⟨S576, .i32⟩
  | 94 => ⟨S_, .i32⟩
  | 95 => ⟨S576, .i32⟩
  | 96 => ⟨S576, .i32⟩
  | 97 => ⟨S1x576, .i32⟩
  | 98 => ⟨S64x576, .i32⟩
  | 99 => ⟨S64x576, .i32⟩
  | 100 => ⟨S64x576, .i32⟩
  | 101 => ⟨S_, .i32⟩
  | 102 => ⟨S64x576, .i32⟩
  | 103 => ⟨S64x576, .i1⟩
  | 104 => ⟨S1x1x64x1x576, .i1⟩
  | 105 => ⟨S_, .f32⟩
  | 106 => ⟨S_, .f32⟩
  | 107 => ⟨S4x8x64x64x576, .i1⟩
  | 108 => ⟨S4x8x64x64x576, .f32⟩
  | 109 => ⟨S4x8x64x64x576, .f32⟩
  | 110 => ⟨S_, .f32⟩
  | 111 => ⟨S4x8x64x64, .f32⟩
  | 112 => ⟨S_, .f32⟩
  | 113 => ⟨S4x8x64x64, .f32⟩
  | 114 => ⟨S4x8x64x64, .f32⟩
  | 115 => ⟨S4x8x64x64x1, .f32⟩
  | 116 => ⟨S4x8x64x64x576, .f32⟩
  | 117 => ⟨S4x8x64x64x576, .f32⟩
  | 118 => ⟨S4x8x64x64x576, .f32⟩
  | 119 => ⟨S_, .f32⟩
  | 120 => ⟨S4x8x64x64, .f32⟩
  | 121 => ⟨S4x8x64x64x1, .f32⟩
  | 122 => ⟨S4x8x64x64x576, .f32⟩
  | 123 => ⟨S4x8x64x64x576, .f32⟩
  | 124 => ⟨S4x8x64x64x128, .f32⟩
  | 125 => ⟨S4x8x4096x128, .f32⟩
  | 126 => ⟨S4x4096x8x128, .f32⟩
  | 127 => ⟨S4x4096x1024, .f32⟩
  | _ => ⟨S4x4096x2048, .bf16⟩

abbrev hbmTy0_1 (i : Nat) : BufTy := match i % 128 with
  | 0 => ⟨S4x4096x1024, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_6 : Ref sig .tc := ⟨.hbm, 65, rfl⟩
abbrev main_c_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .hbm, ⟨10, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S16384x2048 : Shape := ⟨2, ![16384, 2048]⟩
abbrev S2048x10240 : Shape := ⟨2, ![2048, 10240]⟩
abbrev S2048x5632 : Shape := ⟨2, ![2048, 5632]⟩
abbrev S16384x4096 : Shape := ⟨2, ![16384, 4096]⟩
abbrev S1024x2048 : Shape := ⟨2, ![1024, 2048]⟩
abbrev S2048x1024 : Shape := ⟨2, ![2048, 1024]⟩
abbrev S32x5632 : Shape := ⟨2, ![32, 5632]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S2048x5632, .f32⟩
  | .hbm, ⟨3, _⟩ => ⟨S16384x4096, .bf16⟩
  | .hbm, ⟨4, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S32x5632, .f32⟩
  | .local _ .vmem, ⟨5, _⟩ => ⟨S32x5632, .f32⟩
  | .local _ .vmem, ⟨6, _⟩ => ⟨S1024x1024, .bf16⟩
  | .local _ .vmem, ⟨7, _⟩ => ⟨S1024x1024, .bf16⟩
  | .local _ .vmem, ⟨8, _⟩ => ⟨S32x5632, .bf16⟩
  | .local _ .vmem, ⟨9, _⟩ => ⟨S32x5632, .bf16⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.divsi arg0 c3_i32
  let c0_i32_0 : BitVec 32 := 0#32
  let v2 : BitVec 1 := Scalar.cmpi .sgt arg0 c0_i32_0
  let v3 : BitVec 32 := Scalar.extui v2
  let c0_i32_1 : BitVec 32 := 0#32
  let v4 : BitVec 1 := Scalar.cmpi .slt arg0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi arg0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.muli c2_i32 v17
  let v19 : BitVec 32 := Scalar.addi v0 v18
  let c0_i32_5 : BitVec 32 := 0#32
  let c0_i32_6 : BitVec 32 := 0#32
  ![c0_i32_5.toNat, v19.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S2048x10240 : Shape := ⟨2, ![2048, 10240]⟩
abbrev S2048x5632 : Shape := ⟨2, ![2048, 5632]⟩
abbrev S16384x10240 : Shape := ⟨2, ![16384, 10240]⟩
abbrev S16384x3072 : Shape := ⟨2, ![16384, 3072]⟩
abbrev S16384x1024 : Shape := ⟨2, ![16384, 1024]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S2048x5632, .f32⟩
  | .hbm, ⟨3, _⟩ => ⟨S16384x2048, .f32⟩
  | .hbm, ⟨4, _⟩ => ⟨S16384x10240, .f32⟩
  | .hbm, ⟨5, _⟩ => ⟨S16384x3072, .f32⟩
  | .hbm, ⟨6, _⟩ => ⟨S16384x1024, .f32⟩
  | .hbm, ⟨7, _⟩ => ⟨S16384x4096, .f32⟩
  | .hbm, ⟨8, _⟩ => ⟨S16384x4096, .bf16⟩
  | .hbm, ⟨9, _⟩ => ⟨S2048x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x2048 : Shape := ⟨2, ![16384, 2048]⟩
abbrev S2048x10240 : Shape := ⟨2, ![2048, 10240]⟩
abbrev S128 : Shape := ⟨1, ![128]⟩
abbrev S5632x2048 : Shape := ⟨2, ![5632, 2048]⟩
abbrev S1024x2048 : Shape := ⟨2, ![1024, 2048]⟩
abbrev S2048x2048 : Shape := ⟨2, ![2048, 2048]⟩
abbrev S1x128 : Shape := ⟨2, ![1, 128]⟩
abbrev S2x128 : Shape := ⟨2, ![2, 128]⟩
abbrev S2048x1024 : Shape := ⟨2, ![2048, 1024]⟩
abbrev S176x2048 : Shape := ⟨2, ![176, 2048]⟩
abbrev S32x2048 : Shape := ⟨2, ![32, 2048]⟩
abbrev S64x2048 : Shape := ⟨2, ![64, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 24
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S128, .f32⟩
  | .hbm, ⟨3, _⟩ => ⟨S128, .f32⟩
  | .hbm, ⟨4, _⟩ => ⟨S5632x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S16384x2048, .bf16⟩
  | .hbm, ⟨12, _⟩ => ⟨S5632x2048, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S2x128, .f32⟩
  | .local _ .vmem, ⟨5, _⟩ => ⟨S176x2048, .f32⟩
  | .local _ .vmem, ⟨6, _⟩ => ⟨S176x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S64x2048, .f32⟩
  | .local _ .vmem, ⟨12, _⟩ => ⟨S64x2048, .f32⟩
  | .local _ .vmem, ⟨13, _⟩ => ⟨S1024x1024, .bf16⟩
  | .local _ .vmem, ⟨14, _⟩ => ⟨S1024x1024, .bf16⟩
  | .local _ .vmem, ⟨15, _⟩ => ⟨S176x2048, .bf16⟩
  | .local _ .vmem, ⟨16, _⟩ => ⟨S176x2048, .bf16⟩
  | .local _ .vmem, ⟨17, _⟩ => ⟨S32x2048, .bf16⟩
  | .local _ .vmem, ⟨18, _⟩ => ⟨S32x2048, .bf16⟩
  | .local _ .vmem, ⟨19, _⟩ => ⟨S32x2048, .bf16⟩
  | .local _ .vmem, ⟨20, _⟩ => ⟨S32x2048, .bf16⟩
  | .local _ .vmem, ⟨21, _⟩ => ⟨S64x2048, .bf16⟩
  | .local _ .vmem, ⟨22, _⟩ => ⟨S64x2048, .bf16⟩
  | .local _ .vmem, ⟨23, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v18 : Index := Scalar.indexCast arg0
  let c0_20 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.muli c0_i32_5 v17
  let v19 : BitVec 32 := Scalar.addi v0 v18
  let c0_i32_6 : BitVec 32 := 0#32
  let c0_i32_7 : BitVec 32 := 0#32
  ![c0_i32_6.toNat, v19.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16384x2048 : Shape := ⟨2, ![16384, 2048]⟩
abbrev S2048x10240 : Shape := ⟨2, ![2048, 10240]⟩
abbrev S128 : Shape := ⟨1, ![128]⟩
abbrev S5632x2048 : Shape := ⟨2, ![5632, 2048]⟩
abbrev S1024x2048 : Shape := ⟨2, ![1024, 2048]⟩
abbrev S2048x2048 : Shape := ⟨2, ![2048, 2048]⟩
abbrev S16384x10240 : Shape := ⟨2, ![16384, 10240]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S128, .f32⟩
  | .hbm, ⟨3, _⟩ => ⟨S128, .f32⟩
  | .hbm, ⟨4, _⟩ => ⟨S5632x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S16384x2048, .f32⟩
  | .hbm, ⟨9, _⟩ => ⟨S16384x10240, .f32⟩
  | .hbm, ⟨10, _⟩ => ⟨S16384x1024, .f32⟩
  | .hbm, ⟨11, _⟩ => ⟨S16384x1024, .f32⟩
  | .hbm, ⟨12, _⟩ => ⟨S16384x8x128, .f32⟩
  | .hbm, ⟨13, _⟩ => ⟨S16384x8x128, .f32⟩
  | .hbm, ⟨14, _⟩ => ⟨S_, .f32⟩
  | .hbm, ⟨15, _⟩ => ⟨S16384x8, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S_, .f32⟩
  | .hbm, ⟨21, _⟩ => ⟨S16384x8x1, .f32⟩
  | .hbm, ⟨22, _⟩ => ⟨S16384x8x1, .f32⟩
  | .hbm, ⟨23, _⟩ => ⟨S16384x8x1, .f32⟩
  | .hbm, ⟨24, _⟩ => ⟨S16384x8x128, .f32⟩
  | .hbm, ⟨25, _⟩ => ⟨S16384x8x128, .f32⟩
  | .hbm, ⟨26, _⟩ => ⟨S1x1x128, .f32⟩
  | .hbm, ⟨27, _⟩ => ⟨S16384x8x128, .f32⟩
  | .hbm, ⟨28, _⟩ => ⟨S16384x8x128, .f32⟩
  | .hbm, ⟨29, _⟩ => ⟨S16384x1024, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S16384x8, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x128, .f32⟩
  | .hbm, ⟨43, _⟩ => ⟨S16384x8x128, .f32⟩
  | .hbm, ⟨44, _⟩ => ⟨S1x1x128, .f32⟩
  | .hbm, ⟨45, _⟩ => ⟨S16384x8x128, .f32⟩
  | .hbm, ⟨46, _⟩ => ⟨S16384x8x128, .f32⟩
  | .hbm, ⟨47, _⟩ => ⟨S16384x1024, .f32⟩
  | .hbm, ⟨48, _⟩ => ⟨S16384x2048, .f32⟩
  | .hbm, ⟨49, _⟩ => ⟨S16384x2048, .bf16⟩
  | .hbm, ⟨50, _⟩ => ⟨S5632x2048, .bf16⟩
  | .hbm, ⟨51, _⟩ => ⟨S1024x2048, .bf16⟩
  | .hbm, ⟨52, _⟩ => ⟨S1024x2048, .bf16⟩
  | .hbm, ⟨53, _⟩ => ⟨S2048x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S16384x2048 : Shape := ⟨2, ![16384, 2048]⟩
abbrev S2048x10240 : Shape := ⟨2, ![2048, 10240]⟩
abbrev S4096 : Shape := ⟨1, ![4096]⟩
abbrev S2048x5632 : Shape := ⟨2, ![2048, 5632]⟩
abbrev S1x4096 : Shape := ⟨2, ![1, 4096]⟩
abbrev S16384x4096 : Shape := ⟨2, ![16384, 4096]⟩
abbrev S1024x2048 : Shape := ⟨2, ![1024, 2048]⟩
abbrev S2048x1024 : Shape := ⟨2, ![2048, 1024]⟩
abbrev S1x1024 : Shape := ⟨2, ![1, 1024]⟩
abbrev S32x5632 : Shape := ⟨2, ![32, 5632]⟩
abbrev S1024x1024 : Shape := ⟨2, ![1024, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S4096, .f32⟩
  | .hbm, ⟨3, _⟩ => ⟨S2048x5632, .f32⟩
  | .hbm, ⟨4, _⟩ => ⟨S1x4096, .f32⟩
  | .hbm, ⟨5, _⟩ => ⟨S16384x4096, .bf16⟩
  | .hbm, ⟨6, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S32x5632, .f32⟩
  | .local _ .vmem, ⟨7, _⟩ => ⟨S32x5632, .f32⟩
  | .local _ .vmem, ⟨8, _⟩ => ⟨S1024x1024, .bf16⟩
  | .local _ .vmem, ⟨9, _⟩ => ⟨S1024x1024, .bf16⟩
  | .local _ .vmem, ⟨10, _⟩ => ⟨S32x5632, .bf16⟩
  | .local _ .vmem, ⟨11, _⟩ => ⟨S32x5632, .bf16⟩
  | .local _ .vmem, ⟨12, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c3_i32 : BitVec 32 := 3#32
  let v1 : BitVec 32 := Scalar.divsi arg0 c3_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.muli c0_i32_4 v17
  let v19 : BitVec 32 := Scalar.addi v0 v18
  let c0_i32_5 : BitVec 32 := 0#32
  let c0_i32_6 : BitVec 32 := 0#32
  ![c0_i32_5.toNat, v19.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x2048 : Shape := ⟨2, ![16384, 2048]⟩
abbrev S2048x10240 : Shape := ⟨2, ![2048, 10240]⟩
abbrev S4096 : Shape := ⟨1, ![4096]⟩
abbrev S2048x5632 : Shape := ⟨2, ![2048, 5632]⟩
abbrev S16384x10240 : Shape := ⟨2, ![16384, 10240]⟩
abbrev S16384x4096 : Shape := ⟨2, ![16384, 4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10240, .f32⟩
  | .hbm, ⟨2, _⟩ => ⟨S4096, .f32⟩
  | .hbm, ⟨3, _⟩ => ⟨S2048x5632, .f32⟩
  | .hbm, ⟨4, _⟩ => ⟨S16384x2048, .f32⟩
  | .hbm, ⟨5, _⟩ => ⟨S16384x10240, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .bf16⟩
  | .hbm, ⟨19, _⟩ => ⟨S2048x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S16384x2048 : Shape := ⟨2, ![16384, 2048]⟩
abbrev S16384x1024 : Shape := ⟨2, ![16384, 1024]⟩
abbrev S16384x4096 : Shape := ⟨2, ![16384, 4096]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x4096, .bf16⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16384x2048 : Shape := ⟨2, ![16384, 2048]⟩
abbrev S16384x1024 : Shape := ⟨2, ![16384, 1024]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x4096, .bf16⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S16384x1024, .f32⟩
  | .hbm, ⟨8, _⟩ => ⟨S16384x1024, .f32⟩
  | .hbm, ⟨9, _⟩ => ⟨S16384x4096, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Facts.lean ====
/-
  Numbers the kernels write down and the scalar identities their epilogues rest on, over the extended reals.
-/
module

public import Idealize.ShloMosaic.Lib.Pointwise

@[expose] public section

set_option maxRecDepth 16384

noncomputable section

open Idealize.ShloMosaic

namespace Cert.Proof.Facts

/-- The word `0x3F000000` reads as one half. -/
theorem half : Ideal.ofBits .f32 0x3F000000#32 = (((1 : ℝ) / 2 : ℝ) : EReal) := by
  simp [Ideal.ofBits, Ideal.ieee, -EReal.coe_mul]; norm_num

/-- The word `0x3F800000` reads as one. -/
theorem one : Ideal.ofBits .f32 0x3F800000#32 = ((1 : ℝ) : EReal) := by
  simp [Ideal.ofBits, Ideal.ieee, -EReal.coe_mul]; norm_num

/-- A quotient by anything but zero is a product with the inverse. -/
theorem div_of_ne {x y : EReal} (h : y ≠ 0) : Ideal.div x y = x * y⁻¹ := by
  unfold Ideal.div
  rw [if_neg h]

/-- The logistic function as a quotient, its numbers as the words of the program. -/
def sig (y : EReal) : EReal :=
  Ideal.div (Ideal.ofBits .f32 0x3F800000#32) (Ideal.ofBits .f32 0x3F800000#32 + Ideal.exp (-y))

/-- The logistic function of a real number, through the hyperbolic tangent of its half. -/
theorem half_tanh_real (y : ℝ) : (1 / 2 : ℝ) * Real.tanh (1 / 2 * y) + 1 / 2 = 1 * (1 + Real.exp (-y))⁻¹ := by
  have h1 : Real.exp (-y) = Real.exp (-(1 / 2 * y)) * Real.exp (-(1 / 2 * y)) := by
    rw [← Real.exp_add]; congr 1; ring
  have h2 : Real.exp (1 / 2 * y) * Real.exp (-(1 / 2 * y)) = 1 := by
    rw [← Real.exp_add, add_neg_cancel, Real.exp_zero]
  rw [Real.tanh_eq_sinh_div_cosh, Real.sinh_eq, Real.cosh_eq, h1]
  have p := Real.exp_pos (1 / 2 * y)
  have q := Real.exp_pos (-(1 / 2 * y))
  generalize Real.exp (1 / 2 * y) = a at *
  generalize Real.exp (-(1 / 2 * y)) = b at *
  have ha : a = b⁻¹ := eq_inv_of_mul_eq_one_left h2
  subst ha
  field_simp
  ring

/-- Half a hyperbolic tangent of the half, plus a half, is the logistic function — at the infinities too. -/
theorem half_tanh (y : EReal) : Ideal.ofBits .f32 0x3F000000#32 * Ideal.tanh (Ideal.ofBits .f32 0x3F000000#32 * y)
    + Ideal.ofBits .f32 0x3F000000#32 = sig y := by
  unfold sig
  rw [half, one]
  induction y with
  | bot =>
    rw [EReal.coe_mul_bot_of_pos (by norm_num)]
    rw [Ideal.tanh_bot, EReal.neg_bot, Ideal.exp_top, EReal.coe_add_top 1, div_of_ne (by simp), EReal.inv_top, mul_zero,
      show (-1 : EReal) = ((-1 : ℝ) : EReal) by norm_num, ← EReal.coe_mul, ← EReal.coe_add]
    norm_num
  | top =>
    rw [EReal.coe_mul_top_of_pos (by norm_num)]
    rw [Ideal.tanh_top, EReal.neg_top, Ideal.exp_bot, add_zero, div_of_ne (by norm_num), mul_one, ← EReal.coe_add,
      ← EReal.coe_inv, ← EReal.coe_mul]
    norm_num
  | coe y =>
    have hne : (1 + Real.exp (-y) : ℝ) ≠ 0 := (add_pos one_pos (Real.exp_pos _)).ne'
    rw [← EReal.coe_mul, Ideal.tanh_coe, ← EReal.coe_mul, ← EReal.coe_add, half_tanh_real, ← EReal.coe_neg, Ideal.exp_coe,
      ← EReal.coe_add]
    rw [div_of_ne (by exact_mod_cast hne), ← EReal.coe_inv, ← EReal.coe_mul]

/-- A row scaled to unit mean square and by a gain; the word `w` is the row's length as a float. -/
def rms {n : ℕ} (w : BitVec 32) (x g : Fin n → EReal) (k : Fin n) : EReal :=
  x k * Ideal.rsqrt (Ideal.div (∑ j : Fin n, x j * x j) (Ideal.ofBits .f32 w) + Ideal.ofBits .f32 0x358637BD#32) * g k

/-- Half the gated unit of a feed-forward block, as the kernel writes it. -/
def act (g u : EReal) : EReal :=
  Ideal.div (g * u * Ideal.ofBits .f32 0x3F000000#32) (Ideal.ofBits .f32 0x3F800000#32 + Ideal.exp (0 - g))

/-- One plus an exponential is not zero. -/
theorem one_add_exp_ne (y : EReal) : Ideal.ofBits .f32 0x3F800000#32 + Ideal.exp y ≠ 0 := by
  rw [one]
  induction y with
  | bot => simp
  | top => rw [Ideal.exp_top, EReal.coe_add_top]; simp
  | coe y =>
    rw [Ideal.exp_coe, ← EReal.coe_add]
    exact_mod_cast (add_pos one_pos (Real.exp_pos y)).ne'

/-- The kernel's half gated unit is half of the reference's gated unit. -/
theorem act_eq (g u : EReal) : act g u = Ideal.ofBits .f32 0x3F000000#32 * (g * sig g * u) := by
  unfold act sig
  rw [div_of_ne (one_add_exp_ne _), div_of_ne (one_add_exp_ne _), zero_sub, one, EReal.coe_one, one_mul]
  ac_rfl

/-- A finite number that is not negative goes into a finite sum. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- A sum over `b` more terms, the further ones numbered from zero. -/
theorem sum_range_block (F : ℕ → EReal) (a b : ℕ) :
    ∑ n ∈ Finset.range (a + b), F n = (∑ n ∈ Finset.range a, F n) + ∑ k : Fin b, F (a + k.val) := by
  rw [Finset.sum_range_add, Finset.sum_range (fun k => F (a + k))]

end Cert.Proof.Facts
-- ==== Proof.MaskedSoftmax.lean ====
/-
The softmax of a row of scores, some of which are masked by the value minus infinity, weighting a row of values: written once with
powers of two and a single division at the end, once with exponentials and every weight divided. Both are stated over all the
positions of the sequence, and a window of positions outside which every score is masked may stand for the whole sequence.
-/
module

public import proofs.«01_k».proof.Proof.Facts

@[expose] public section

noncomputable section

open Idealize.ShloMosaic

namespace Cert.Proof.MaskedSoftmax

/-- The maximum of a finite family, folded from minus infinity as the programs write it, is its supremum. -/
theorem fold_max {ι : Type} [Fintype ι] (f : ι → EReal) :
    Finset.fold max (Ideal.ofBits .f32 0xFF800000#32) f Finset.univ = Finset.univ.sup f := by
  rw [show Ideal.ofBits .f32 0xFF800000#32 = (⊥ : EReal) by simp [Ideal.ofBits, Ideal.ieee]]
  rfl

/-- Softmax with powers of two, the division made once. -/
def att {ι : Type} [Fintype ι] (S V : ι → EReal) : EReal :=
  Ideal.div (∑ p, Ideal.exp2 (S p - Finset.univ.sup S) * V p) (∑ p, Ideal.exp2 (S p - Finset.univ.sup S))

/-- Softmax with exponentials, every weight divided. -/
def soft {ι : Type} [Fintype ι] (S V : ι → EReal) : EReal :=
  ∑ p, Ideal.div (Ideal.exp (S p - Finset.univ.sup S)) (∑ q, Ideal.exp (S q - Finset.univ.sup S)) * V p

/-- A supremum over a family that agrees along an injection with another one, itself masked off the image. -/
theorem sup_along {ι κ : Type} [Fintype ι] [Fintype κ] (e : ι → κ) (ok : ι → Prop) (s : ι → EReal) (S : κ → EReal)
    (hs : ∀ x, ok x → s x = S (e x)) (hn : ∀ x, ¬ ok x → s x = ⊥) (hout : ∀ p, (∀ x, ok x → e x ≠ p) → S p = ⊥) :
    Finset.univ.sup s = Finset.univ.sup S := by
  refine le_antisymm (Finset.sup_le fun x _ => ?_) (Finset.sup_le fun p _ => ?_)
  · by_cases h : ok x
    · rw [hs x h]; exact Finset.le_sup (f := S) (Finset.mem_univ _)
    · rw [hn x h]; exact bot_le
  · by_cases h : ∃ x, ok x ∧ e x = p
    · obtain ⟨x, hx, rfl⟩ := h
      rw [← hs x hx]; exact Finset.le_sup (f := s) (Finset.mem_univ _)
    · rw [hout p fun x hx he => h ⟨x, hx, he⟩]; exact bot_le

/-- A sum over a family that agrees along an injection with another one, itself zero off the image. -/
theorem sum_along {ι κ : Type} [Fintype ι] [Fintype κ] (e : ι → κ) (ok : ι → Prop) (f : ι → EReal) (g : κ → EReal)
    (hinj : ∀ x y, ok x → ok y → e x = e y → x = y)
    (hs : ∀ x, ok x → f x = g (e x)) (hn : ∀ x, ¬ ok x → f x = 0) (hout : ∀ p, (∀ x, ok x → e x ≠ p) → g p = 0) :
    ∑ x, f x = ∑ p, g p := by
  classical
  rw [← Finset.sum_filter_of_ne (s := Finset.univ) (p := ok) (f := f) fun x _ h => by_contra fun hk => h (hn x hk)]
  refine Finset.sum_of_injOn e ?_ ?_ ?_ ?_
  · intro x hx y hy h
    exact hinj x y (by simpa using hx) (by simpa using hy) h
  · intro x _; simp
  · intro p _ hp
    refine hout p fun x hx he => hp ⟨x, by simpa using hx, he⟩
  · intro x hx; exact hs x (by simpa using hx)

/-- Minus infinity less anything is minus infinity. -/
theorem bot_sub' (y : EReal) : (⊥ : EReal) - y = ⊥ := by
  rw [sub_eq_add_neg, EReal.bot_add]

/-- A window of positions outside which every score is masked gives the softmax of the whole row. -/
theorem att_along {ι κ : Type} [Fintype ι] [Fintype κ] (e : ι → κ) (s v : ι → EReal) (S V : κ → EReal)
    (hinj : ∀ x y, e x = e y → x = y) (hs : ∀ x, s x = S (e x)) (hv : ∀ x, v x = V (e x))
    (hout : ∀ p, (∀ x, e x ≠ p) → S p = ⊥) : att s v = att S V := by
  have hM : Finset.univ.sup s = Finset.univ.sup S :=
    sup_along e (fun _ => True) s S (fun x _ => hs x) (fun x h => absurd trivial h) (fun p h => hout p fun x => h x trivial)
  unfold att
  rw [hM]
  congr 1
  · refine sum_along e (fun _ => True) _ _ (fun x y _ _ h => hinj x y h) (fun x _ => by rw [hs, hv]) (fun x h => absurd trivial h) fun p h => ?_
    rw [hout p fun x => h x trivial, bot_sub', Ideal.exp2_bot, zero_mul]
  · refine sum_along e (fun _ => True) _ _ (fun x y _ _ h => hinj x y h) (fun x _ => by rw [hs]) (fun x h => absurd trivial h) fun p h => ?_
    rw [hout p fun x => h x trivial, bot_sub', Ideal.exp2_bot]

/-- A sum of real numbers, taken over the extended reals. -/
theorem coe_sum {ι : Type} (s : Finset ι) (f : ι → ℝ) : ∑ p ∈ s, ((f p : ℝ) : EReal) = ((∑ p ∈ s, f p : ℝ) : EReal) := by
  classical
  induction s using Finset.induction_on with
  | empty => simp
  | insert a s ha ih => rw [Finset.sum_insert ha, Finset.sum_insert ha, ih, EReal.coe_add]

/-- The weights of a row with an unmasked score, as real numbers: nonnegative, with a positive sum. -/
theorem weights {ι : Type} [Fintype ι] (R : ι → EReal) (hR : ∀ p, R p = ⊥ ∨ ∃ r : ℝ, R p = (r : EReal)) (p₀ : ι) (hp₀ : R p₀ ≠ ⊥) :
    ∃ (μ : ℝ) (w : ι → ℝ), Finset.univ.sup R = (μ : EReal) ∧ (∀ p, Ideal.exp (R p - (μ : EReal)) = ((w p : ℝ) : EReal))
      ∧ 0 < ∑ p, w p := by
  obtain ⟨i, -, hi⟩ := Finset.exists_mem_eq_sup Finset.univ ⟨p₀, Finset.mem_univ _⟩ R
  have hne : R i ≠ ⊥ := fun h => hp₀ (le_bot_iff.mp (by
    rw [← h, ← hi]; exact Finset.le_sup (f := R) (Finset.mem_univ p₀)))
  obtain ⟨μ, hμ⟩ := (hR i).resolve_left hne
  refine ⟨μ, fun p => if R p = ⊥ then 0 else Real.exp ((R p).toReal - μ), hi.trans hμ, fun p => ?_, ?_⟩
  · rcases hR p with h | ⟨r, h⟩
    · simp only [h, if_true, bot_sub', Ideal.exp_bot, EReal.coe_zero]
    · simp only [h, if_neg (EReal.coe_ne_bot r), EReal.toReal_coe, ← EReal.coe_sub, Ideal.exp_coe]
  · refine Finset.sum_pos' (fun p _ => ?_) ⟨i, Finset.mem_univ _, ?_⟩
    · split_ifs
      · exact le_rfl
      · exact (Real.exp_pos _).le
    · rw [if_neg hne]; exact Real.exp_pos _

/-- Scaling the scores by the reciprocal of the logarithm of two turns exponentials into powers of two; the one division may be
made before the sum. -/
theorem att_eq_soft {ι : Type} [Fintype ι] (R V : ι → EReal) (hR : ∀ p, R p = ⊥ ∨ ∃ r : ℝ, R p = (r : EReal)) (p₀ : ι)
    (hp₀ : R p₀ ≠ ⊥) :
    att (fun p => (((Real.log 2)⁻¹ : ℝ) : EReal) * R p) V = soft R V := by
  obtain ⟨μ, w, hμ, hw, hpos⟩ := weights R hR p₀ hp₀
  have hl : (0 : ℝ) < Real.log 2 := Real.log_pos (by norm_num)
  have hL : (0 : ℝ) < (Real.log 2)⁻¹ := inv_pos.mpr hl
  have hmono : ∀ p, (((Real.log 2)⁻¹ : ℝ) : EReal) * R p ≤ (((Real.log 2)⁻¹ : ℝ) : EReal) * (μ : EReal) := fun p => by
    have hp : R p ≤ (μ : EReal) := hμ ▸ Finset.le_sup (f := R) (Finset.mem_univ p)
    rcases hR p with h | ⟨r, h⟩
    · rw [h, EReal.coe_mul_bot_of_pos hL]; exact bot_le
    · rw [h] at hp ⊢
      rw [← EReal.coe_mul, ← EReal.coe_mul, EReal.coe_le_coe_iff]
      exact mul_le_mul_of_nonneg_left (EReal.coe_le_coe_iff.mp hp) hL.le
  have hM : Finset.univ.sup (fun p => (((Real.log 2)⁻¹ : ℝ) : EReal) * R p) = (((Real.log 2)⁻¹ : ℝ) : EReal) * (μ : EReal) := by
    obtain ⟨i, -, hi⟩ := Finset.exists_mem_eq_sup Finset.univ ⟨p₀, Finset.mem_univ _⟩ R
    refine le_antisymm (Finset.sup_le fun p _ => hmono p) ?_
    rw [← hμ, hi]
    exact Finset.le_sup (f := fun p => (((Real.log 2)⁻¹ : ℝ) : EReal) * R p) (Finset.mem_univ i)
  have hexp : ∀ p, Ideal.exp2 ((((Real.log 2)⁻¹ : ℝ) : EReal) * R p - (((Real.log 2)⁻¹ : ℝ) : EReal) * (μ : EReal)) = ((w p : ℝ) : EReal) := fun p => by
    rw [← hw p]
    rcases hR p with h | ⟨r, h⟩
    · rw [h, EReal.coe_mul_bot_of_pos hL, bot_sub', bot_sub', Ideal.exp2_bot, Ideal.exp_bot]
    · rw [h, ← EReal.coe_mul, ← EReal.coe_mul, ← EReal.coe_sub, ← EReal.coe_sub, Ideal.exp2_coe, Ideal.exp_coe]
      congr 1
      rw [Real.rpow_eq_pow, Real.rpow_def_of_pos (by norm_num)]
      congr 1
      field_simp
  have hz : ((∑ p, w p : ℝ) : EReal) ≠ 0 := by
    rw [← EReal.coe_zero, Ne, EReal.coe_eq_coe_iff]; exact hpos.ne'
  unfold att soft
  rw [hM, hμ]
  simp only [hexp, hw]
  rw [coe_sum, Facts.div_of_ne hz, mul_comm, ← EReal.coe_inv, Facts.coe_mul_sum _ _ _ (inv_nonneg.mpr hpos.le)]
  refine Finset.sum_congr rfl fun p _ => ?_
  rw [Facts.div_of_ne hz, ← EReal.coe_inv, ← mul_assoc, mul_comm ((_ : ℝ) : EReal) ((w p : ℝ) : EReal)]

/-- A band of positions, some of them outside the sequence and masked, gives the softmax of the whole row. -/
theorem soft_along {ι κ : Type} [Fintype ι] [Fintype κ] (e : ι → κ) (ok : ι → Prop) (s v : ι → EReal) (S V : κ → EReal)
    (hinj : ∀ x y, ok x → ok y → e x = e y → x = y)
    (hs : ∀ x, ok x → s x = S (e x)) (hn : ∀ x, ¬ ok x → s x = ⊥) (hv : ∀ x, ok x → v x = V (e x))
    (hout : ∀ p, (∀ x, ok x → e x ≠ p) → S p = ⊥)
    (hS : ∀ p, S p = ⊥ ∨ ∃ r : ℝ, S p = (r : EReal)) (p₀ : κ) (hp₀ : S p₀ ≠ ⊥) : soft s v = soft S V := by
  have hM : Finset.univ.sup s = Finset.univ.sup S := sup_along e ok s S hs hn hout
  obtain ⟨μ, w, hμ, hw, hpos⟩ := weights S hS p₀ hp₀
  have hz : ((∑ p, w p : ℝ) : EReal) ≠ 0 := by
    rw [← EReal.coe_zero, Ne, EReal.coe_eq_coe_iff]; exact hpos.ne'
  have hZ : ∑ x, Ideal.exp (s x - Finset.univ.sup S) = ∑ p, Ideal.exp (S p - Finset.univ.sup S) :=
    sum_along e ok _ _ hinj (fun x h => by rw [hs x h]) (fun x h => by rw [hn x h, bot_sub', Ideal.exp_bot])
      fun p h => by rw [hout p h, bot_sub', Ideal.exp_bot]
  have hZ' : ∑ p, Ideal.exp (S p - Finset.univ.sup S) = ((∑ p, w p : ℝ) : EReal) := by
    rw [hμ]; simp only [hw]; rw [coe_sum]
  unfold soft
  rw [hM, hZ, hZ']
  refine sum_along e ok _ _ hinj (fun x h => by rw [hs x h, hv x h]) (fun x h => ?_) fun p h => ?_
  · rw [hn x h, bot_sub', Ideal.exp_bot, Facts.div_of_ne hz, zero_mul, zero_mul]
  · rw [hout p h, bot_sub', Ideal.exp_bot, Facts.div_of_ne hz, zero_mul, zero_mul]

end Cert.Proof.MaskedSoftmax
-- ==== Proof.AttnTiles.lean ====
/-
What the chunked attention's kernel leaves in its output window, row by row: each tile of 128 query rows is a masked softmax over the
keys of a window, and all the tiles, the first four and those of the loop alike, are one function of the row.
-/
module

public import proofs.«01_k».proof.Defs
public import proofs.«01_k».proof.Proof.Gen.KernelIdeal.Value
public import proofs.«01_k».proof.Proof.MaskedSoftmax
public import Idealize.ShloMosaic.Lib.Pipeline.Value
public import Idealize.ShloMosaic.Lib.Pipeline.ValueKit
public import Idealize.ShloMosaic.Lib.Pipeline.CanonAppend
public import Idealize.ShloMosaic.Lib.Pointwise
public import Idealize.ShloMosaic.Lib.ValueLayout

@[expose] public section

set_option maxRecDepth 16384

noncomputable section

open Idealize.ShloMosaic Idealize.ShloMosaic.TcCoe Idealize.SL.Sem

namespace Cert.Proof.AttnTiles

open Cert.KernelIdeal Cert.KernelIdeal.Gen Cert.Proof.MaskedSoftmax

/-- The offsets of a whole rank-2 read. -/
theorem hz : (![0, 0] : Fin 2 → Nat) = fun _ => 0 := funext fun a => by fin_cases a <;> rfl

/-- The offsets of a whole rank-3 read. -/
theorem hz3 : (![0, 0, 0] : Fin 3 → Nat) = fun _ => 0 := funext fun a => by fin_cases a <;> rfl

/-- The factor of the scores. -/
abbrev fac : EReal := Named.named (F := Ideal) κ "scale_log2e" (φ := .f32) 0x3E0293EE#32

/-- The score of the key at `p` for the query at `a`: inside the 640 keys that end with the query's tile the scaled product plus the
tile's bias, outside masked. -/
def score (x0 x1 : Vec Ideal S1x4096x128 .bf16) (B : Vec Ideal S128x640 .f32) (a p : Fin 4096) : EReal :=
  if p.val < 128 * (a.val / 128 + 1) ∧ 128 * (a.val / 128 + 1) ≤ p.val + 640 then
    (∑ e : Fin 128, (x0 (ix3 0 a e) : EReal) * x1 (ix3 0 p e)) * fac
      + B (ix2 ⟨a.val % 128, Nat.mod_lt _ (by norm_num)⟩ ⟨(p.val + 640 - 128 * (a.val / 128 + 1)) % 640, Nat.mod_lt _ (by norm_num)⟩)
  else ⊥

/-- The output window of one head of one batch entry. -/
def G (x0 x1 x2 : Vec Ideal S1x4096x128 .bf16) (B : Vec Ideal S128x640 .f32) : Vec Ideal S1x4096x128 .bf16 :=
  fun y => att (score x0 x1 B (y 1)) fun p => (x2 (ix3 0 p (y 2)) : EReal)

/-- One tile over a window of `n` keys is the function above. -/
theorem piece (n T : ℕ) (hT : T < 32) (hn : n = 640 ∧ 4 ≤ T ∨ n = 128 * (T + 1) ∧ T < 4) (x0 x1 x2 : Vec Ideal S1x4096x128 .bf16)
    (B : Vec Ideal S128x640 .f32) (q : Fin 128 → Fin 128 → EReal) (k v : Fin n → Fin 128 → EReal) (b : Fin 128 → Fin n → EReal)
    (hq : ∀ r e, q r e = x0 (ix3 0 ⟨128 * T + r.val, by omega⟩ e))
    (hk : ∀ x e, k x e = x1 (ix3 0 ⟨128 * (T + 1) - n + x.val, by omega⟩ e))
    (hv : ∀ x e, v x e = x2 (ix3 0 ⟨128 * (T + 1) - n + x.val, by omega⟩ e))
    (hb : ∀ r x, b r x = B (ix2 r ⟨640 - n + x.val, by omega⟩)) (r d : Fin 128) (y : S1x4096x128.Idx)
    (hy1 : (y 1).val = 128 * T + r.val) (hy2 : (y 2).val = d.val) :
    att (fun x : Fin n => (∑ e : Fin 128, q r e * k x e) * fac + b r x) (fun x => v x d) = G x0 x1 x2 B y := by
  unfold G
  have hr := r.isLt
  have hdiv : (y 1).val / 128 = T := by omega
  have hmod : (y 1).val % 128 = r.val := by omega
  refine att_along (fun x : Fin n => (⟨128 * (T + 1) - n + x.val, by omega⟩ : Fin 4096)) _ _ _ _ ?_ ?_ ?_ ?_
  · intro x x' h
    have := congrArg Fin.val h
    exact Fin.ext (by simpa using this)
  · intro x
    have hx := x.isLt
    unfold score
    rw [if_pos (by rw [hdiv]; constructor <;> simp only [] <;> omega), hb]
    refine congrArg₂ (· + ·) (congrArg (· * fac) (Finset.sum_congr rfl fun e _ => ?_)) (congrArg _ (Shape.idx_ext₂ ?_ ?_))
    · rw [hq, hk]
      exact congrArg₂ (· * ·) (congrArg (fun t => x0 (ix3 0 t e)) (Fin.ext hy1.symm)) rfl
    · exact hmod.symm
    · show 640 - n + x.val = (128 * (T + 1) - n + x.val + 640 - 128 * ((y 1).val / 128 + 1)) % 640
      rw [hdiv]; omega
  · intro x
    rw [hv]
    exact congrArg (fun t => x2 (ix3 0 _ t)) (Fin.ext hy2.symm)
  · intro p hp
    unfold score
    rw [if_neg]
    rintro ⟨h1, h2⟩
    rw [hdiv] at h1 h2
    have := p.isLt
    refine hp ⟨p.val - (128 * (T + 1) - n), by omega⟩ (Fin.ext ?_)
    show 128 * (T + 1) - n + (p.val - (128 * (T + 1) - n)) = p.val
    omega

/-- The first tile of a trip. -/
theorem tileA (q : Vec Ideal S1x128x128 .bf16) (k v : Vec Ideal S1x640x128 .bf16) (B : Vec Ideal S128x640 .f32) (i : S1x128x128.Idx) :
    k0_pay20 (F := Ideal) (k0_pay13 (k0_pay9 q k B)) v i
      = att (fun x : Fin 640 => (∑ e : Fin 128, (q (ix3 0 (i 1) e) : EReal) * k (ix3 0 x e)) * fac + B (ix2 (i 1) x))
          fun x => (v (ix3 0 x (i 2)) : EReal) := by
  unfold k0_pay20 k0_pay13 k0_pay9
  pointwise
  simp only [fold_max]
  rfl

/-- The second tile of a trip. -/
theorem tileB (q : Vec Ideal S1x128x128 .bf16) (k v : Vec Ideal S1x640x128 .bf16) (B : Vec Ideal S128x640 .f32) (i : S1x128x128.Idx) :
    k0_pay2 (F := Ideal) (k0_pay17 (k0_pay14 (k0_pay10 q) k B) v) (k0_pay21 (k0_pay14 (k0_pay10 q) k B)) i
      = att (fun x : Fin 640 => (∑ e : Fin 128, (q (ix3 0 (i 1) e) : EReal) * k (ix3 0 x e)) * fac + B (ix2 (i 1) x))
          fun x => (v (ix3 0 x (i 2)) : EReal) := by
  unfold k0_pay2 k0_pay17 k0_pay21 k0_pay14 k0_pay10
  pointwise
  simp only [fold_max]
  rfl

/-- The third tile of a trip. -/
theorem tileC (q : Vec Ideal S1x128x128 .bf16) (k v : Vec Ideal S1x640x128 .bf16) (B : Vec Ideal S128x640 .f32) (i : S1x128x128.Idx) :
    k0_pay3 (F := Ideal) (k0_pay15 (k0_pay11 q k B)) (k0_pay18 (k0_pay11 q k B) v) i
      = att (fun x : Fin 640 => (∑ e : Fin 128, (q (ix3 0 (i 1) e) : EReal) * k (ix3 0 x e)) * fac + B (ix2 (i 1) x))
          fun x => (v (ix3 0 x (i 2)) : EReal) := by
  unfold k0_pay3 k0_pay18 k0_pay15 k0_pay11
  pointwise
  simp only [fold_max]
  rfl

/-- The fourth tile of a trip. -/
theorem tileD (q : Vec Ideal S1x128x128 .bf16) (k v : Vec Ideal S1x640x128 .bf16) (B : Vec Ideal S128x640 .f32) (i : S1x128x128.Idx) :
    k0_pay4 (F := Ideal) (k0_pay16 (k0_pay12 q k B)) (k0_pay19 (k0_pay12 q k B) v) i
      = att (fun x : Fin 640 => (∑ e : Fin 128, (q (ix3 0 (i 1) e) : EReal) * k (ix3 0 x e)) * fac + B (ix2 (i 1) x))
          fun x => (v (ix3 0 x (i 2)) : EReal) := by
  unfold k0_pay4 k0_pay19 k0_pay16 k0_pay12
  pointwise
  simp only [fold_max]
  rfl

/-- The first tile. -/
theorem head0 (q : Vec Ideal S1x128x128 .bf16) (k v : Vec Ideal S1x128x128 .bf16) (B : Vec Ideal S128x128 .f32) (i : S1x128x128.Idx) :
    k0_pay34 (F := Ideal) (k0_pay27 (k0_pay23 q k B)) (k0_pay31 (k0_pay23 q k B) v) i
      = att (fun x : Fin 128 => (∑ e : Fin 128, (q (ix3 0 (i 1) e) : EReal) * k (ix3 0 x e)) * fac + B (ix2 (i 1) x))
          fun x => (v (ix3 0 x (i 2)) : EReal) := by
  unfold k0_pay34 k0_pay31 k0_pay27 k0_pay23
  pointwise
  simp only [fold_max]
  rfl

/-- The second tile. -/
theorem head1 (q : Vec Ideal S1x128x128 .bf16) (k v : Vec Ideal S1x256x128 .bf16) (B : Vec Ideal S128x256 .f32) (i : S1x128x128.Idx) :
    k0_pay35 (F := Ideal) (k0_pay28 (k0_pay24 q k B)) (k0_pay32 (k0_pay24 q k B)) v i
      = att (fun x : Fin 256 => (∑ e : Fin 128, (q (ix3 0 (i 1) e) : EReal) * k (ix3 0 x e)) * fac + B (ix2 (i 1) x))
          fun x => (v (ix3 0 x (i 2)) : EReal) := by
  unfold k0_pay35 k0_pay32 k0_pay28 k0_pay24
  pointwise
  simp only [fold_max]
  rfl

/-- The third tile. -/
theorem head2 (q : Vec Ideal S1x128x128 .bf16) (k v : Vec Ideal S1x384x128 .bf16) (B : Vec Ideal S128x384 .f32) (i : S1x128x128.Idx) :
    k0_pay36 (F := Ideal) (k0_pay29 (k0_pay25 q k) k0_pay26 B) v i
      = att (fun x : Fin 384 => (∑ e : Fin 128, (q (ix3 0 (i 1) e) : EReal) * k (ix3 0 x e)) * fac + B (ix2 (i 1) x))
          fun x => (v (ix3 0 x (i 2)) : EReal) := by
  unfold k0_pay36 k0_pay29 k0_pay26 k0_pay25
  pointwise
  simp only [fold_max]
  rfl

/-- The fourth tile. -/
theorem head3 (q : Vec Ideal S1x128x128 .bf16) (k v : Vec Ideal S1x512x128 .bf16) (B : Vec Ideal S128x512 .f32) (i : S1x128x128.Idx) :
    k0_pay1 (F := Ideal) (k0_pay30 q k B) (k0_pay33 (k0_pay30 q k B) v) i
      = att (fun x : Fin 512 => (∑ e : Fin 128, (q (ix3 0 (i 1) e) : EReal) * k (ix3 0 x e)) * fac + B (ix2 (i 1) x))
          fun x => (v (ix3 0 x (i 2)) : EReal) := by
  unfold k0_pay1 k0_pay33 k0_pay30
  pointwise
  simp only [fold_max]
  rfl

/-- Where a trip reads its queries and writes its rows. -/
theorem off1 (k : Fin k0_t1_loop.trips) (j : Fin 4) : k0_off1 k (BitVec.ofNat 32 (128 * j.val)) = ![0, 128 * (4 + 4 * k.val + j.val), 0] := by
  have hk : k.val < 7 := Nat.lt_of_lt_of_le k.isLt k0_t1_abs.2.1
  obtain ⟨k, hk'⟩ := k
  show (![0, BitVec.toNat _, 0] : Fin 3 → ℕ) = _
  congr 2
  revert j
  interval_cases k <;> dsimp only <;> decide

/-- Where a trip's windows of keys begin. -/
theorem off2 (k : Fin k0_t1_loop.trips) (j : Fin 4) : k0_off2 k (BitVec.ofNat 32 (128 * j.val)) = ![0, 128 * (4 + 4 * k.val + j.val + 1) - 640, 0] := by
  have hk : k.val < 7 := Nat.lt_of_lt_of_le k.isLt k0_t1_abs.2.1
  obtain ⟨k, hk'⟩ := k
  show (![0, BitVec.toNat _, 0] : Fin 3 → ℕ) = _
  congr 2
  revert j
  interval_cases k <;> dsimp only <;> decide

/-- A load of a block of rows reads the rows. -/
theorem ldrow (X : Vec Ideal S1x4096x128 .bf16) (n o : ℕ) (off : Fin 3 → ℕ) (ho : off = ![0, o, 0]) (inb) (r : Fin n) (e : Fin 128) (h : o + r.val < 4096) :
    View.ld (e' := .bf16) X (Rect.unit (s := S1x4096x128) off ![1, n, 128] inb) (ix3 0 r e) = X (ix3 0 ⟨o + r.val, h⟩ e) := by
  subst ho
  refine View.ld_unit_apply_of (S := S1x4096x128) X _ _ _ _ (ix3 0 ⟨o + r.val, h⟩ e) fun a => ?_
  fin_cases a
  · rfl
  · rfl
  · exact (Nat.zero_add _).symm

/-- A tile whose blocks are loaded where the tile's rows and its window lie. -/
theorem loaded (n T : ℕ) (hT : T < 32) (hn : n = 640 ∧ 4 ≤ T ∨ n = 128 * (T + 1) ∧ T < 4) (x0 x1 x2 : Vec Ideal S1x4096x128 .bf16)
    (B : Vec Ideal S128x640 .f32) (oq ok : Fin 3 → ℕ) (hoq : oq = ![0, 128 * T, 0]) (hok : ok = ![0, 128 * (T + 1) - n, 0]) (i1 i2 i3 i4)
    (b : Fin 128 → Fin n → EReal) (hb : ∀ r x, b r x = B (ix2 r ⟨640 - n + x.val, by omega⟩)) (x : S1x128x128.Idx) :
    att (fun t : Fin n => (∑ e : Fin 128, (View.ld (e' := .bf16) x0 (Rect.unit (s := S1x4096x128) oq ![1, 128, 128] i1) (ix3 0 (x 1) e) : EReal)
          * View.ld (e' := .bf16) x1 (Rect.unit (s := S1x4096x128) ok ![1, n, 128] i2) (ix3 0 t e)) * fac + b (x 1) t)
        (fun t => (View.ld (e' := .bf16) x2 (Rect.unit (s := S1x4096x128) ok ![1, n, 128] i3) (ix3 0 t (x 2)) : EReal))
      = G x0 x1 x2 B ((Rect.unit (s := S1x4096x128) oq ![1, 128, 128] i4).emb x) := by
  have h1 := (x 1).isLt
  refine piece n T hT hn x0 x1 x2 B
    (fun r e => View.ld (e' := .bf16) x0 (Rect.unit (s := S1x4096x128) oq ![1, 128, 128] i1) (ix3 0 r e))
    (fun t e => View.ld (e' := .bf16) x1 (Rect.unit (s := S1x4096x128) ok ![1, n, 128] i2) (ix3 0 t e))
    (fun t e => View.ld (e' := .bf16) x2 (Rect.unit (s := S1x4096x128) ok ![1, n, 128] i3) (ix3 0 t e)) b ?_ ?_ ?_ hb (x 1) (x 2) _ ?_ ?_
  · exact fun r e => ldrow x0 128 _ _ hoq _ r e _
  · exact fun t e => ldrow x1 n _ _ hok _ t e _
  · exact fun t e => ldrow x2 n _ _ hok _ t e _
  · subst hoq
    show 128 * T + 1 * (x 1).val = _
    omega
  · subst hoq
    show 0 + 1 * (x 2).val = _
    omega

/-- The rows a trip of the loop writes. -/
theorem trip (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x1024 .f32) (harg5 : arg5.IsWhole) (arg6 : Memref sig .tc .vmem S1x4096x128 .bf16) (harg6 : arg6.IsWhole) (arg7 : Memref sig .tc .vmem S128x640 .f32) (harg7 : arg7.IsWhole) (x0 x1 x2 : Vec Ideal S1x4096x128 .bf16) (B : Vec Ideal S128x640 .f32) (k : Fin k0_t1_loop.trips) :
    ∀ p ∈ tripL_k0_t1 (F := Ideal) 𝒱 c bd i arg2 harg2 arg3 harg3 arg4 harg4 arg5 harg5 arg6 harg6 arg7 harg7 (harg2.unread x0) (harg3.unread x1) (harg4.unread x2) (harg7.unread B) k,
      ∀ x : p.1.shape.Idx, p.2 x = G x0 x1 x2 B (p.1.emb x) := by
  have hk : k.val < 7 := Nat.lt_of_lt_of_le k.isLt k0_t1_abs.2.1
  unfold tripL_k0_t1 trip_k0_t1
  dsimp only
  sl_unfold_words
  simp only [View.readAt_eq_ld, harg2.read_unread, harg3.read_unread, harg4.read_unread, harg7.read_unread, View.ld_unit_zero (S := S128x640) hz, List.forall_mem_cons]
  refine ⟨fun x => ?_, fun x => ?_, fun x => ?_, fun x => ?_, fun p hp => absurd hp List.not_mem_nil⟩
  · exact (tileD _ _ _ _ x).trans (loaded 640 (4 + 4 * k.val + 3) (by omega) (.inl ⟨rfl, by omega⟩) x0 x1 x2 B _ _ (off1 k 3) (off2 k 3) _ _ _ _
      (fun r t => B (ix2 r t)) (fun r t => congrArg (fun t => B (ix2 r t)) (Fin.ext (Nat.zero_add _).symm)) x)
  · exact (tileC _ _ _ _ x).trans (loaded 640 (4 + 4 * k.val + 2) (by omega) (.inl ⟨rfl, by omega⟩) x0 x1 x2 B _ _ (off1 k 2) (off2 k 2) _ _ _ _
      (fun r t => B (ix2 r t)) (fun r t => congrArg (fun t => B (ix2 r t)) (Fin.ext (Nat.zero_add _).symm)) x)
  · exact (tileB _ _ _ _ x).trans (loaded 640 (4 + 4 * k.val + 1) (by omega) (.inl ⟨rfl, by omega⟩) x0 x1 x2 B _ _ (off1 k 1) (off2 k 1) _ _ _ _
      (fun r t => B (ix2 r t)) (fun r t => congrArg (fun t => B (ix2 r t)) (Fin.ext (Nat.zero_add _).symm)) x)
  · exact (tileA _ _ _ _ x).trans (loaded 640 (4 + 4 * k.val + 0) (by omega) (.inl ⟨rfl, by omega⟩) x0 x1 x2 B _ _ (off1 k 0) (off2 k 0) _ _ _ _
      (fun r t => B (ix2 r t)) (fun r t => congrArg (fun t => B (ix2 r t)) (Fin.ext (Nat.zero_add _).symm)) x)

/-- A load of the last columns of the bias table reads them. -/
theorem ldcol (B : Vec Ideal S128x640 .f32) (n : ℕ) (hn : n ≤ 640) (inb) (r : Fin 128) (t : Fin n) :
    View.ld (e' := .f32) B (Rect.unit (s := S128x640) ![0, 640 - n] ![128, n] inb) (ix2 r t) = B (ix2 r ⟨640 - n + t.val, by omega⟩) := by
  refine View.ld_unit_apply_of (S := S128x640) B _ _ _ _ (ix2 r ⟨640 - n + t.val, by omega⟩) fun a => ?_
  fin_cases a
  · exact (Nat.zero_add _).symm
  · rfl

/-- The rows the trips before the `n`th wrote. -/
theorem trips (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x1024 .f32) (harg5 : arg5.IsWhole) (arg6 : Memref sig .tc .vmem S1x4096x128 .bf16) (harg6 : arg6.IsWhole) (arg7 : Memref sig .tc .vmem S128x640 .f32) (harg7 : arg7.IsWhole) (x0 x1 x2 : Vec Ideal S1x4096x128 .bf16) (B : Vec Ideal S128x640 .f32) (n : ℕ) (hn : n ≤ k0_t1_loop.trips) :
    ∀ p ∈ pb_k0_t1 (F := Ideal) 𝒱 c bd i arg2 harg2 arg3 harg3 arg4 harg4 arg5 harg5 arg6 harg6 arg7 harg7 (harg2.unread x0) (harg3.unread x1) (harg4.unread x2) (harg7.unread B) n,
      ∀ x : p.1.shape.Idx, p.2 x = G x0 x1 x2 B (p.1.emb x) := by
  induction n with
  | zero => exact fun p hp => absurd hp List.not_mem_nil
  | succ n ih =>
    rw [pb_k0_t1_succ (F := Ideal) 𝒱 c bd i arg2 harg2 arg3 harg3 arg4 harg4 arg5 harg5 arg6 harg6 arg7 harg7 (harg2.unread x0) (harg3.unread x1) (harg4.unread x2) (harg7.unread B) ⟨n, hn⟩]
    intro p hp
    rcases List.mem_append.mp hp with h | h
    · exact trip 𝒱 c bd i arg2 harg2 arg3 harg3 arg4 harg4 arg5 harg5 arg6 harg6 arg7 harg7 x0 x1 x2 B ⟨n, hn⟩ p h
    · exact ih (Nat.le_of_succ_le hn) p h

/-- What case B leaves in the output window. -/
theorem out0_B_4_eq (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x1024 .f32) (harg5 : arg5.IsWhole) (arg6 : Memref sig .tc .vmem S1x4096x128 .bf16) (harg6 : arg6.IsWhole) (arg7 : Memref sig .tc .vmem S128x640 .f32) (harg7 : arg7.IsWhole) (hc0 : ¬cond0_0 i)
    (x0 : Vec Ideal S1x4096x128 .bf16) (x1 : Vec Ideal S1x4096x128 .bf16) (x2 : Vec Ideal S1x4096x128 .bf16) (x3 : Vec Ideal S1x1x1024 .f32) (xs0 : Vec Ideal S128x640 .f32) :
    out0_B_4 (F := Ideal) c i arg2 harg2 arg3 harg3 arg4 harg4 arg5 harg5 arg6 harg6 arg7 harg7 hc0 x0 x1 x2 x3 xs0 = G x0 x1 x2 xs0 := by
  unfold out0_B_4
  rw [View.read_writes_eq_canon _ _ _ (cover0_B_4 c i arg2 harg2 arg3 harg3 arg4 harg4 arg5 harg5 arg6 harg6 arg7 harg7 hc0 x0 x1 x2 x3 xs0)]
  funext y
  refine View.canon_apply_of_pieces (G x0 x1 x2 xs0) _ ?_ y (cover0_B_4 c i arg2 harg2 arg3 harg3 arg4 harg4 arg5 harg5 arg6 harg6 arg7 harg7 hc0 x0 x1 x2 x3 xs0 y)
  unfold kernelRun0_B
  dsimp only
  sl_unfold_words
  simp only [View.readAt_eq_ld, harg2.read_unread, harg3.read_unread, harg4.read_unread, harg7.read_unread, View.ld_unit_zero (S := S128x640) hz, List.forall_mem_append, List.forall_mem_cons]
  refine ⟨fun p hp => trips _ c _ i arg2 harg2 arg3 harg3 arg4 harg4 arg5 harg5 arg6 harg6 arg7 harg7 x0 x1 x2 xs0 _ le_rfl p hp, fun x => ?_, fun x => ?_, fun x => ?_, fun x => ?_, fun p hp => absurd hp List.not_mem_nil⟩
  · exact (head3 _ _ _ _ x).trans (loaded 512 3 (by omega) (.inr ⟨rfl, by omega⟩) x0 x1 x2 xs0 _ _ rfl rfl _ _ _ _ _ (ldcol xs0 512 (by omega) _) x)
  · exact (head2 _ _ _ _ x).trans (loaded 384 2 (by omega) (.inr ⟨rfl, by omega⟩) x0 x1 x2 xs0 _ _ rfl rfl _ _ _ _ _ (ldcol xs0 384 (by omega) _) x)
  · exact (head1 _ _ _ _ x).trans (loaded 256 1 (by omega) (.inr ⟨rfl, by omega⟩) x0 x1 x2 xs0 _ _ rfl rfl _ _ _ _ _ (ldcol xs0 256 (by omega) _) x)
  · exact (head0 _ _ _ _ x).trans (loaded 128 0 (by omega) (.inr ⟨rfl, by omega⟩) x0 x1 x2 xs0 _ _ rfl rfl _ _ _ _ _ (ldcol xs0 128 (by omega) _) x)
/-- The bias table a head's first point makes of its row of biases. -/
def table (b : Vec Ideal S1x1x1024 .f32) : Vec Ideal S128x640 .f32 :=
  k0_pay22 (F := Ideal) (k0_pay5 b) k0_pay6 (iota .tc S128x640 32 [1] iota_S128x640_d1_w32) 64#32 k0_pay7 k0_pay8
    (Scalar.extui (Scalar.cmpi .sgt 64#32 0#32)) (Scalar.cmpi .slt 64#32 0#32)

/-- One store of the whole table covers it. -/
theorem tabCover (inb) (w : Vec Ideal S128x640 .f32) (y : S128x640.Idx) :
    ∃ p ∈ [(⟨Rect.unit (s := S128x640) ![0, 0] ![128, 640] inb, w⟩ : View.Piece (Elt Ideal) S128x640 .f32)], y ∈ p.1.set :=
  View.cover_of_tiledL [(⟨Rect.unit (s := S128x640) ![0, 0] ![128, 640] inb, w⟩ : View.Piece (Elt Ideal) S128x640 .f32)] S128x640.size (by sl_kernel_rfl) y

/-- A load of the table just stored. -/
theorem tab (v : View sig .tc .vmem S128x640 .f32) (inb) (w : Vec Ideal S128x640 .f32) (r : Rect S128x640) :
    v.readCov [(⟨Rect.unit (s := S128x640) ![0, 0] ![128, 640] inb, w⟩ : View.Piece (Elt Ideal) S128x640 .f32)] r.toLoadRect = View.ld w r := by
  rw [View.readCov_eq_canon_ld _ _ _ (tabCover inb w), View.canon_unit_zero (S := S128x640) hz]

/-- The scratch after the table is stored. -/
theorem unreadTab (arg7 : Memref sig .tc .vmem S128x640 .f32) (harg7 : arg7.IsWhole) (inb) (w : Vec Ideal S128x640 .f32) :
    arg7.view.writes (Elt Ideal) arg7.view.junk [(⟨Rect.unit (s := S128x640) ![0, 0] ![128, 640] inb, w⟩ : View.Piece (Elt Ideal) S128x640 .f32)]
      = harg7.unread w :=
  harg7.eq_unread (by rw [View.read_writes_eq_canon _ _ _ (tabCover inb w), View.canon_unit_zero (S := S128x640) hz])

/-- What case A leaves in the output window. -/
theorem out0_A_4_eq (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x1024 .f32) (harg5 : arg5.IsWhole) (arg6 : Memref sig .tc .vmem S1x4096x128 .bf16) (harg6 : arg6.IsWhole) (arg7 : Memref sig .tc .vmem S128x640 .f32) (harg7 : arg7.IsWhole) (hc0 : cond0_0 i)
    (x0 : Vec Ideal S1x4096x128 .bf16) (x1 : Vec Ideal S1x4096x128 .bf16) (x2 : Vec Ideal S1x4096x128 .bf16) (x3 : Vec Ideal S1x1x1024 .f32) :
    out0_A_4 (F := Ideal) c i arg2 harg2 arg3 harg3 arg4 harg4 arg5 harg5 arg6 harg6 arg7 harg7 hc0 x0 x1 x2 x3 = G x0 x1 x2 (table x3) := by
  unfold out0_A_4
  rw [View.read_writes_eq_canon _ _ _ (cover0_A_4 c i arg2 harg2 arg3 harg3 arg4 harg4 arg5 harg5 arg6 harg6 arg7 harg7 hc0 x0 x1 x2 x3)]
  funext y
  refine View.canon_apply_of_pieces (G x0 x1 x2 (table x3)) _ ?_ y (cover0_A_4 c i arg2 harg2 arg3 harg3 arg4 harg4 arg5 harg5 arg6 harg6 arg7 harg7 hc0 x0 x1 x2 x3 y)
  unfold kernelRun0_A
  dsimp only
  sl_unfold_words
  simp only [View.readAt_eq_ld, harg2.read_unread, harg3.read_unread, harg4.read_unread, harg5.read_unread, View.ld_unit_zero (S := S1x1x1024) hz3, tab, unreadTab arg7 harg7, List.forall_mem_append, List.forall_mem_cons]
  refine ⟨fun p hp => trips _ c _ i arg2 harg2 arg3 harg3 arg4 harg4 arg5 harg5 arg6 harg6 arg7 harg7 x0 x1 x2 (table x3) _ le_rfl p hp, fun x => ?_, fun x => ?_, fun x => ?_, fun x => ?_, fun p hp => absurd hp List.not_mem_nil⟩
  · exact (head3 _ _ _ _ x).trans (loaded 512 3 (by omega) (.inr ⟨rfl, by omega⟩) x0 x1 x2 (table x3) _ _ rfl rfl _ _ _ _ _ (ldcol (table x3) 512 (by omega) _) x)
  · exact (head2 _ _ _ _ x).trans (loaded 384 2 (by omega) (.inr ⟨rfl, by omega⟩) x0 x1 x2 (table x3) _ _ rfl rfl _ _ _ _ _ (ldcol (table x3) 384 (by omega) _) x)
  · exact (head1 _ _ _ _ x).trans (loaded 256 1 (by omega) (.inr ⟨rfl, by omega⟩) x0 x1 x2 (table x3) _ _ rfl rfl _ _ _ _ _ (ldcol (table x3) 256 (by omega) _) x)
  · exact (head0 _ _ _ _ x).trans (loaded 128 0 (by omega) (.inr ⟨rfl, by omega⟩) x0 x1 x2 (table x3) _ _ rfl rfl _ _ _ _ _ (ldcol (table x3) 128 (by omega) _) x)
/-- What case A leaves in the scratch. -/
theorem sout0_A_0_eq (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1x1024 .f32) (harg5 : arg5.IsWhole) (arg6 : Memref sig .tc .vmem S1x4096x128 .bf16) (harg6 : arg6.IsWhole) (arg7 : Memref sig .tc .vmem S128x640 .f32) (harg7 : arg7.IsWhole) (hc0 : cond0_0 i)
    (x0 : Vec Ideal S1x4096x128 .bf16) (x1 : Vec Ideal S1x4096x128 .bf16) (x2 : Vec Ideal S1x4096x128 .bf16) (x3 : Vec Ideal S1x1x1024 .f32) :
    sout0_A_0 (F := Ideal) c i arg2 harg2 arg3 harg3 arg4 harg4 arg5 harg5 arg6 harg6 arg7 harg7 hc0 x0 x1 x2 x3 = table x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  simp only [View.readAt_eq_ld, harg5.read_unread, View.ld_unit_zero (S := S1x1x1024) hz3]
  rw [View.canon_unit_zero (S := S128x640) hz]
  rfl

end Cert.Proof.AttnTiles
-- ==== Proof.AttnKernel.lean ====
/-
  The chunked attention kernel (`KernelIdeal`), from its blocks to its result array. A head's bias row is laid out on
  the host; a head's first batch makes the bias table of it and leaves it in a scratch for the other batches. Every
  point then writes the attention of its head and batch.
-/
module

public import proofs.«01_k».proof.Proof.AttnTiles
public import proofs.«01_k».proof.Proof.Gen.KernelIdeal.Value
public import Idealize.ShloMosaic.Lib.Pipeline.Value
public import Idealize.ShloMosaic.Lib.Pointwise
public import Idealize.ShloMosaic.Lib.ValueLayout
public import proofs.«01_k».proof.Proof.MaskedSoftmax

@[expose] public section

set_option maxRecDepth 16384

noncomputable section

open Idealize.ShloMosaic Idealize.ShloMosaic.TcCoe Idealize.SL.Sem
open Idealize.ShloMosaic.Pipeline (Dat)

namespace Cert.Proof.AttnKernel

open Cert.KernelIdeal Cert.KernelIdeal.Gen Cert.Proof.AttnTiles Cert.Proof.MaskedSoftmax

variable (m : (ℓ : Loc nD τ sig) → Buf (Elt Ideal) ℓ) (ρ : Dev nD → PrngReg) (c : Dev nD)

/-- Argument 0, as numbers. -/
abbrev arg0 : S4x4096x2048.Idx → EReal := m ((c : Thread nD τ).loc main_arg0)

/-- Argument 1, as numbers. -/
abbrev arg1 : S4x4096x4096.Idx → EReal := m ((c : Thread nD τ).loc main_arg1)

/-- Argument 2, as numbers. -/
abbrev arg2 : S8x192.Idx → EReal := m ((c : Thread nD τ).loc main_arg2)

/-- The bias of a key `n - 63` places before its query, the distance clipped at 128 places. -/
def clip (n : ℕ) : Fin 192 := ⟨min 191 n, by omega⟩

/-- A head's bias row as the host lays it out. -/
theorem V_row (h : Fin 8) (x : Fin 1024) : (V m c main_v9 : S8x1x1024.Idx → EReal) (ix3 h 0 x)
    = if x.val < 641 then arg2 m c (ix2 h (clip (575 - x.val))) else arg2 m c (ix2 h 191) := by
  unfold V hostOps0
  after_results
  pointwise
  split_ifs
  all_goals try omega
  · refine (congrFun (?_ : _ = broadcastInDim S8x385 ![0, 1] bcast_S8x1_S8x385_0_1 (extractStridedSlice S8x1 ![0, 191] (arg2 m c) slices_S8x192_S8x1_0_191)) _).trans ?_
    · after_results
    · pointwise
      rw [if_pos (by omega)]
      refine congrArg (fun q => arg2 m c (ix2 h q)) (Fin.ext ?_)
      show 191 = min 191 (575 - x.val)
      omega
  · refine (congrFun (?_ : _ = Host.reverse [1] (extractStridedSlice S8x191 ![0, 0] (arg2 m c) slices_S8x192_S8x191_0_0)) _).trans ?_
    · after_results
    · pointwise
      rw [if_pos (show x.val < 641 by omega)]
      refine congrArg₂ (fun p q => arg2 m c (ix2 p q)) rfl (Fin.ext ?_)
      show 191 - (x.val - 385 + 1) = min 191 (575 - x.val)
      omega
  · refine (congrFun (?_ : _ = broadcastInDim S8x65 ![0, 1] bcast_S8x1_S8x65_0_1 (extractStridedSlice S8x1 ![0, 0] (arg2 m c) slices_S8x192_S8x1_0_0)) _).trans ?_
    · after_results
    · pointwise
      rw [if_pos (by omega)]
      refine congrArg (fun q => arg2 m c (ix2 h q)) (Fin.ext ?_)
      show 0 = min 191 (575 - x.val)
      omega
  · refine (congrFun (?_ : _ = broadcastInDim S8x383 ![0, 1] bcast_S8x1_S8x383_0_1 (extractStridedSlice S8x1 ![0, 191] (arg2 m c) slices_S8x192_S8x1_0_191)) _).trans ?_
    · after_results
    · pointwise
      rw [if_neg (by omega)]

/-- The chunk of position `n`, as the program computes it. -/
def chunk (n : ℕ) : BitVec 32 :=
  Scalar.select
            (IntOp.andi
              (IntOp.cmpi CmpIPredicate.ne
                (IntOp.subi (BitVec.setWidth 32 (IntOp.cmpi CmpIPredicate.sgt (BitVec.ofNat 32 n) 0#32))
                  (BitVec.setWidth 32 (IntOp.cmpi CmpIPredicate.slt (BitVec.ofNat 32 n) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 n) 64#32) 0#32))
            (IntOp.subi (IntOp.divsi ArithUnit.vector (BitVec.ofNat 32 n) 64#32) 1#32)
            (IntOp.divsi ArithUnit.vector (BitVec.ofNat 32 n) 64#32)

/-- The chunk of a window's key, as the kernel divides for it. -/
theorem chunk_eq (n : Fin 640) : chunk n.val = BitVec.ofNat 32 (n.val / 64) := by
  revert n
  unfold chunk
  decide +kernel

/-- The band of chunks a query's chunk sees. -/
theorem band : ∀ a b : Fin 10, (IntOp.andi (IntOp.cmpi CmpIPredicate.sge (BitVec.ofNat 32 b.val) (BitVec.ofNat 32 a.val))
    (IntOp.cmpi CmpIPredicate.sle (BitVec.ofNat 32 b.val) (IntOp.addi (BitVec.ofNat 32 a.val) 8#32))) = if a.val ≤ b.val ∧ b.val ≤ a.val + 8 then 1#1 else 0#1 := by
  decide +kernel

/-- An entry of the bias table, made of the row. -/
theorem table_apply (b : Vec Ideal S1x1x1024 .f32) (r : Fin 128) (j : Fin 640) : (table b (ix2 r j) : EReal)
    = if r.val / 64 ≤ j.val / 64 ∧ j.val / 64 ≤ r.val / 64 + 8 then
        (b (ix3 0 0 ⟨(j.val + 1024 - r.val) % 1024, Nat.mod_lt _ (by norm_num)⟩) : EReal) * (Named.named (F := Ideal) κ "log2e" (φ := .f32) 0x3FB8AA3B#32)
      else Named.named (F := Ideal) κ "mask" (φ := .f32) 0xF149F2CA#32 := by
  unfold table k0_pay22 k0_pay5 k0_pay6 k0_pay7 k0_pay8
  pointwise
  have hj := chunk_eq j
  have hr := chunk_eq ⟨r.val, by omega⟩
  have hb := band ⟨r.val / 64, by omega⟩ ⟨j.val / 64, by omega⟩
  unfold chunk at hj hr
  simp only [] at hr hb
  erw [hj, hr, hb]
  split_ifs
  · refine congrArg (fun x => (b (ix3 0 0 x) : EReal) * _) (Fin.ext ?_)
    show (j.val + 1024 - r.val % 1024) % 1024 = _
    rw [Nat.mod_eq_of_lt (show r.val < 1024 by omega)]
  · rfl

/-- The index maps, decided over the grid: point `t` is batch `t % 4` of head `t / 4`. -/
theorem idx_facts : ∀ t : Fin cfg0.N, win0_0.index t = ![t.val % 4, 0, t.val / 4]
    ∧ win0_1.index t = ![t.val % 4, 0, 8 + t.val / 4] ∧ win0_2.index t = ![t.val % 4, 0, 24 + t.val / 4]
    ∧ win0_3.index t = ![t.val / 4, 0, 0] ∧ win0_4.index t = ![t.val % 4, 0, t.val / 4] :=
  (by decide +kernel : ∀ t : Fin grid0.N, _)

/-- There are 32 points. -/
theorem lt_N (t : Fin cfg0.N) : t.val < 32 := lt_of_lt_of_eq t.isLt N_0

/-- The batch of point `n`. -/
def bat (n : ℕ) : Fin 4 := ⟨n % 4, by omega⟩

/-- The head of point `n`. -/
def head (n : ℕ) : Fin 8 := ⟨n / 4 % 8, by omega⟩

/-- Column `e` of head `h`'s queries. -/
def qcol (h : Fin 8) (e : Fin 128) : Fin 2048 := ⟨h.val * 128 + e.val, by omega⟩

/-- Column `e` of head `h`'s keys. -/
def kcol (h : Fin 8) (e : Fin 128) : Fin 2048 := ⟨1024 + h.val * 128 + e.val, by omega⟩

/-- Column `e` of head `h`'s values. -/
def vcol (h : Fin 8) (e : Fin 128) : Fin 4096 := ⟨3072 + h.val * 128 + e.val, by omega⟩

/-- Column `e` of head `h` in the result. -/
def ocol (h : Fin 8) (e : Fin 128) : Fin 1024 := ⟨h.val * 128 + e.val, by omega⟩

/-- The block of queries. -/
theorem blk0 (t : Fin cfg0.N) (r : Fin 4096) (e : Fin 128) :
    (iblk m c 0 t (ix3 (0 : Fin 1) r e) : EReal) = arg0 m c (ix3 (bat t.val) r (qcol (head t.val) e)) := by
  have hN := lt_N t
  obtain ⟨h, -⟩ := idx_facts t
  show V m c main_arg0 (((cfg0.win 0).blk t).view.emb (ix3 (0 : Fin 1) r e)) = _
  rw [V_main_arg0]
  refine congrArg _ (funext fun a => Fin.ext ?_)
  fin_cases a
  · show win0_0.index t (0 : Fin 3) * 1 + 1 * 0 = t.val % 4; rw [h]; simp
  · show win0_0.index t (1 : Fin 3) * 4096 + 1 * r.val = r.val; rw [h]; simp
  · show win0_0.index t (2 : Fin 3) * 128 + 1 * e.val = t.val / 4 % 8 * 128 + e.val; rw [h]; simp; omega

/-- The block of keys. -/
theorem blk1 (t : Fin cfg0.N) (r : Fin 4096) (e : Fin 128) :
    (iblk m c 1 t (ix3 (0 : Fin 1) r e) : EReal) = arg0 m c (ix3 (bat t.val) r (kcol (head t.val) e)) := by
  have hN := lt_N t
  obtain ⟨-, h, -⟩ := idx_facts t
  show V m c main_arg0 (((cfg0.win 1).blk t).view.emb (ix3 (0 : Fin 1) r e)) = _
  rw [V_main_arg0]
  refine congrArg _ (funext fun a => Fin.ext ?_)
  fin_cases a
  · show win0_1.index t (0 : Fin 3) * 1 + 1 * 0 = t.val % 4; rw [h]; simp
  · show win0_1.index t (1 : Fin 3) * 4096 + 1 * r.val = r.val; rw [h]; simp
  · show win0_1.index t (2 : Fin 3) * 128 + 1 * e.val = 1024 + t.val / 4 % 8 * 128 + e.val; rw [h]; simp; omega

/-- The block of values. -/
theorem blk2 (t : Fin cfg0.N) (r : Fin 4096) (e : Fin 128) :
    (iblk m c 2 t (ix3 (0 : Fin 1) r e) : EReal) = arg1 m c (ix3 (bat t.val) r (vcol (head t.val) e)) := by
  have hN := lt_N t
  obtain ⟨-, -, h, -⟩ := idx_facts t
  show V m c main_arg1 (((cfg0.win 2).blk t).view.emb (ix3 (0 : Fin 1) r e)) = _
  rw [V_main_arg1]
  refine congrArg _ (funext fun a => Fin.ext ?_)
  fin_cases a
  · show win0_2.index t (0 : Fin 3) * 1 + 1 * 0 = t.val % 4; rw [h]; simp
  · show win0_2.index t (1 : Fin 3) * 4096 + 1 * r.val = r.val; rw [h]; simp
  · show win0_2.index t (2 : Fin 3) * 128 + 1 * e.val = 3072 + t.val / 4 % 8 * 128 + e.val; rw [h]; simp; omega

/-- The block of the bias row. -/
theorem blk3 (t : Fin cfg0.N) (x : Fin 1024) :
    (iblk m c 3 t (ix3 (0 : Fin 1) (0 : Fin 1) x) : EReal) = if x.val < 641 then arg2 m c (ix2 (head t.val) (clip (575 - x.val))) else arg2 m c (ix2 (head t.val) 191) := by
  have hN := lt_N t
  obtain ⟨-, -, -, h, -⟩ := idx_facts t
  rw [← V_row]
  show V m c main_v9 (((cfg0.win 3).blk t).view.emb (ix3 (0 : Fin 1) (0 : Fin 1) x)) = _
  refine congrArg _ (funext fun a => Fin.ext ?_)
  fin_cases a
  · show win0_3.index t (0 : Fin 3) * 1 + 1 * 0 = t.val / 4 % 8; rw [h]; simp; omega
  · show win0_3.index t (1 : Fin 3) * 1 + 1 * 0 = 0; rw [h]; simp
  · show win0_3.index t (2 : Fin 3) * 1024 + 1 * x.val = x.val; rw [h]; simp

/-- A head's table of biases, the masked pairs at minus infinity. -/
def tabAt (A2 : S8x192.Idx → EReal) (h : Fin 8) (r : Fin 128) (j : Fin 640) : EReal :=
  if r.val / 64 ≤ j.val / 64 ∧ j.val / 64 ≤ r.val / 64 + 8 then A2 (ix2 h (clip (575 + r.val - j.val))) * (((Real.log 2)⁻¹ : ℝ) : EReal)
  else ⊥

/-- The table made of a head's row. -/
theorem table_blk3 (t : Fin cfg0.N) (r : Fin 128) (j : Fin 640) :
    (table (iblk m c 3 t) (ix2 r j) : EReal) = tabAt (arg2 m c) (head t.val) r j := by
  rw [table_apply, IdealRules.named_const.ideal_named_scalar _ "log2e" _ _ rfl, IdealRules.named_const.ideal_named_scalar _ "mask" _ _ rfl, blk3]
  unfold tabAt
  split_ifs with h1 h2
  · refine congrArg (fun q => arg2 m c (ix2 (head t.val) q) * _) (Fin.ext ?_)
    show min 191 (575 - (j.val + 1024 - r.val) % 1024) = min 191 (575 + r.val - j.val)
    simp only at h2
    omega
  · refine congrArg (fun q => arg2 m c (ix2 (head t.val) q) * _) (Fin.ext ?_)
    show 191 = min 191 (575 + r.val - j.val)
    simp only at h2
    omega
  · rfl

/-- A head's first point. -/
theorem outs_head (t : Fin cfg0.N) (h0 : t.val % 4 = 0) :
    (outsAt0 m c t.val t.isLt).1 = G (iblk m c 0 t) (iblk m c 1 t) (iblk m c 2 t) (table (iblk m c 3 t))
      ∧ (outsAt0 m c t.val t.isLt).2 = table (iblk m c 3 t) := by
  rw [outsAt0_A m c t h0, out0_A_4_eq, sout0_A_0_eq]
  exact ⟨rfl, rfl⟩

/-- Another point of a head. -/
theorem outs_tail (t : Fin cfg0.N) (h0 : ¬t.val % 4 = 0) :
    (outsAt0 m c t.val t.isLt).1 = G (iblk m c 0 t) (iblk m c 1 t) (iblk m c 2 t) (outsAt0 m c (t.val - 1) (Nat.lt_of_le_of_lt (Nat.sub_le _ _) t.isLt)).2
      ∧ (outsAt0 m c t.val t.isLt).2 = (outsAt0 m c (t.val - 1) (Nat.lt_of_le_of_lt (Nat.sub_le _ _) t.isLt)).2 := by
  rw [outsAt0_B m c t h0, out0_B_4_eq]
  exact ⟨rfl, rfl⟩

/-- After point `n` the scratch holds the table of its head. -/
theorem scratch (n : ℕ) (hn : n < cfg0.N) (r : Fin 128) (j : Fin 640) :
    ((outsAt0 m c n hn).2 (ix2 r j) : EReal) = tabAt (arg2 m c) (head n) r j := by
  induction n with
  | zero =>
    have e := (outs_head m c ⟨0, hn⟩ (by rfl)).2
    dsimp only at e
    rw [e]
    exact table_blk3 m c ⟨0, hn⟩ r j
  | succ n ih =>
    by_cases h0 : (n + 1) % 4 = 0
    · have e := (outs_head m c ⟨n + 1, hn⟩ h0).2
      dsimp only at e
      rw [e]
      exact table_blk3 m c ⟨n + 1, hn⟩ r j
    · have e := (outs_tail m c ⟨n + 1, hn⟩ h0).2
      dsimp only at e
      rw [e]
      refine (ih (Nat.lt_of_succ_lt hn)).trans ?_
      rw [show head (n + 1) = head n from Fin.ext (by show (n + 1) / 4 % 8 = n / 4 % 8; omega)]

/-- A row's scores as the kernel forms them: the window of 640 keys ending with the query's tile, the table added. -/
def scoreAt (A0 : S4x4096x2048.Idx → EReal) (A2 : S8x192.Idx → EReal) (b : Fin 4) (h : Fin 8) (a p : Fin 4096) : EReal :=
  if p.val < 128 * (a.val / 128 + 1) ∧ 128 * (a.val / 128 + 1) ≤ p.val + 640 then
    (∑ e : Fin 128, A0 (ix3 b a (qcol h e)) * A0 (ix3 b p (kcol h e))) * (((Real.sqrt 128)⁻¹ * (Real.log 2)⁻¹ : ℝ) : EReal)
      + tabAt A2 h ⟨a.val % 128, by omega⟩ ⟨(p.val + 640 - 128 * (a.val / 128 + 1)) % 640, by omega⟩
  else ⊥

/-- What point `n` stores, from the table it reads. -/
theorem G_apply (t : Fin cfg0.N) (B : Vec Ideal S128x640 .f32) (hB : ∀ r j, (B (ix2 r j) : EReal) = tabAt (arg2 m c) (head t.val) r j)
    (a : Fin 4096) (d : Fin 128) :
    (G (iblk m c 0 t) (iblk m c 1 t) (iblk m c 2 t) B (ix3 (0 : Fin 1) a d) : EReal)
      = att (scoreAt (arg0 m c) (arg2 m c) (bat t.val) (head t.val) a) fun p => arg1 m c (ix3 (bat t.val) p (vcol (head t.val) d)) := by
  show att (score (iblk m c 0 t) (iblk m c 1 t) B a) (fun p => iblk m c 2 t (ix3 (0 : Fin 1) p d)) = _
  refine congrArg₂ att (funext fun p => ?_) (funext fun p => blk2 m c t p d)
  unfold score scoreAt
  refine if_congr Iff.rfl ?_ rfl
  rw [hB, show fac = _ from IdealRules.named_const.ideal_named_scalar _ _ _ _ rfl]
  refine congrArg (fun q => q * _ + _) (Finset.sum_congr rfl fun e _ => ?_)
  rw [blk0, blk1]

/-- What point `t` stores. -/
theorem out_apply (t : Fin cfg0.N) (a : Fin 4096) (d : Fin 128) : ((outsAt0 m c t.val t.isLt).1 (ix3 (0 : Fin 1) a d) : EReal)
      = att (scoreAt (arg0 m c) (arg2 m c) (bat t.val) (head t.val) a) fun p => arg1 m c (ix3 (bat t.val) p (vcol (head t.val) d)) := by
  by_cases h0 : t.val % 4 = 0
  · rw [(outs_head m c t h0).1]
    exact G_apply m c t _ (table_blk3 m c t) a d
  · rw [(outs_tail m c t h0).1, ← (outs_tail m c t h0).2]
    exact G_apply m c t _ (scratch m c t.val t.isLt) a d

/-- The kernel's result array at an index. -/
theorem result (b : Fin 4) (a : Fin 4096) (h : Fin 8) (d : Fin 128) :
    ((dats m 0 c).arrAt 4 cfg0.N : S4x4096x1024.Idx → EReal) (ix3 b a (ocol h d))
      = att (scoreAt (arg0 m c) (arg2 m c) b h a) fun p => arg1 m c (ix3 b p (vcol h d)) := by
  let t : Fin cfg0.N := ⟨4 * h.val + b.val, lt_of_lt_of_eq (by omega : 4 * h.val + b.val < 32) N_0.symm⟩
  have hb : bat t.val = b := Fin.ext (by show (4 * h.val + b.val) % 4 = b.val; omega)
  have hh : head t.val = h := Fin.ext (by show (4 * h.val + b.val) / 4 % 8 = h.val; omega)
  have e := congrFun ((Value.blocks4 m c t (flush0_4 t)).trans (Value.flushed4 m c t)) (ix3 (0 : Fin 1) a d)
  refine Eq.trans ?_ (e.trans ?_)
  · show _ = ((dats m 0 c).arrAt 4 cfg0.N : S4x4096x1024.Idx → EReal) (((cfg0.win 4).blk t).view.emb (ix3 (0 : Fin 1) a d))
    refine congrArg _ (funext fun x => Fin.ext ?_)
    obtain ⟨-, -, -, -, hi⟩ := idx_facts t
    fin_cases x
    · show b.val = win0_4.index t (0 : Fin 3) * 1 + 1 * 0; rw [hi, ← hb]; simp [bat]
    · show a.val = win0_4.index t (1 : Fin 3) * 4096 + 1 * a.val; rw [hi]; simp
    · show h.val * 128 + d.val = win0_4.index t (2 : Fin 3) * 128 + 1 * d.val
      rw [hi, ← hh]; simp [head, t]; omega
  · rw [← hb, ← hh]
    exact out_apply m c t a d

end Cert.Proof.AttnKernel
-- ==== Proof.AttnLayout.lean ====
/-
  The reference of the chunked attention (`ReferenceIdeal`), its layout operations read at an index: the padded keys and
  values gathered into bands of nine chunks, the clipped distances, the bands' validity.
-/
module

public import proofs.«01_k».proof.Proof.Gen.ReferenceIdeal.Run
public import proofs.«01_k».proof.Proof.Gen.ReferenceIdeal.Read
public import Idealize.ShloMosaic.Lib.Pipeline.Value
public import Idealize.ShloMosaic.Lib.Pointwise
public import Idealize.ShloMosaic.Lib.ValueLayout
public import Idealize.ShloMosaic.Lib.ValueIdxRank6

@[expose] public section

set_option maxRecDepth 16384

noncomputable section

open Idealize.ShloMosaic Idealize.ShloMosaic.TcCoe Idealize.SL.Sem

namespace Cert.Proof.AttnLayout

open Cert.ReferenceIdeal Cert.ReferenceIdeal.Gen Cert.ReferenceIdeal.Read

abbrev gd := gather_S4x8x72x64x128_S64x9x1_S4x8x64x9x64x128_0145_2_n_n_2_2_48164128

/-- The gather of nine chunks for every chunk, read at an index. -/
theorem gather_apply (x : S4x8x72x64x128.Idx → EReal) (idx : IVec S64x9x1 32) (b : Fin 4) (h : Fin 8) (cc : Fin 64) (k : Fin 9) (s : Fin 64) (e : Fin 128)
    (n : Fin 72) (hn : min (idx (ix3 cc k 0)).toInt.toNat 71 = n.val) :
    Host.gather gd x idx (ix6 b h cc k s e) = x (ix5 b h n s e) := by
  unfold Host.gather
  congr 1
  funext a
  refine Fin.ext ?_
  show gd.start (ix6 b h cc k s e) idx a + gd.batchCoord (ix6 b h cc k s e) a + gd.offCoord (ix6 b h cc k s e) a = _
  rw [GatherDims.batchCoord_eq_zero _ _ _ (by exact List.not_mem_nil)]
  by_cases ha : a = 2
  · subst ha
    rw [GatherDims.offCoord_eq_zero _ _ _ (fun h => ((GatherDims.mem_sKept _ _).mp h).1 (List.mem_singleton.mpr rfl))]
    simp only [Nat.add_zero]
    unfold GatherDims.start
    rw [dif_pos (show (2 : Fin 5) ∈ gd.startIndexMap from List.mem_singleton.mpr rfl)]
    have hsi : gd.siIdx (ix6 b h cc k s e) ⟨List.idxOf (2 : Fin 5) gd.startIndexMap,
        List.idxOf_lt_length_iff.2 (List.mem_singleton.mpr rfl)⟩ = ix3 cc k 0 := by
      funext b; refine Fin.ext ?_
      match b with
      | ⟨0, _⟩ => rfl
      | ⟨1, _⟩ => rfl
      | ⟨2, _⟩ => rfl
    rw [hsi]
    exact hn
  · have hs : gd.start (ix6 b h cc k s e) idx a = 0 := by
      unfold GatherDims.start
      rw [dif_neg (by exact fun h => ha (List.mem_singleton.mp h))]
    rw [hs]
    unfold GatherDims.offCoord
    rw [dif_pos (show a ∈ gd.sKept from (GatherDims.mem_sKept _ _).mpr ⟨fun h => ha (List.mem_singleton.mp h), List.not_mem_nil⟩)]
    simp only [Nat.zero_add]
    match a, ha with
    | ⟨0, _⟩, _ => rfl
    | ⟨1, _⟩, _ => rfl
    | ⟨3, _⟩, _ => rfl
    | ⟨4, _⟩, _ => rfl

abbrev gb := gather_S8x192_S64x576x1_S8x64x576_0_1_n_n_1_2_81

/-- The gather of the biases at the clipped distances, read at an index. -/
theorem gatherBias_apply (x : S8x192.Idx → EReal) (idx : IVec S64x576x1 32) (h : Fin 8) (i : Fin 64) (j : Fin 576)
    (n : Fin 192) (hn : min (idx (ix3 i j 0)).toInt.toNat 191 = n.val) :
    Host.gather gb x idx (ix3 h i j) = x (ix2 h n) := by
  unfold Host.gather
  congr 1
  funext a
  refine Fin.ext ?_
  show gb.start (ix3 h i j) idx a + gb.batchCoord (ix3 h i j) a + gb.offCoord (ix3 h i j) a = _
  rw [GatherDims.batchCoord_eq_zero _ _ _ (by exact List.not_mem_nil)]
  by_cases ha : a = 1
  · subst ha
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gb.startIndexMap from List.mem_singleton.mpr rfl)]
    have hsi : gb.siIdx (ix3 h i j) ⟨List.idxOf (1 : Fin 2) gb.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    exact hn
  · have hs : gb.start (ix3 h i j) idx a = 0 := by
      unfold GatherDims.start
      rw [dif_neg (by exact fun h => ha (List.mem_singleton.mp h))]
    rw [hs]
    unfold GatherDims.offCoord
    rw [dif_pos (show a ∈ gb.sKept from (GatherDims.mem_sKept _ _).mpr ⟨fun h => ha (List.mem_singleton.mp h), List.not_mem_nil⟩)]
    simp only [Nat.zero_add]
    match a, ha with
    | ⟨0, _⟩, _ => rfl
    | ⟨1, _⟩, h => exact absurd rfl h

/-- The first padded chunk of a band, and those after it, for the keys. -/
theorem v28_apply (cc : Fin 64) (k : Fin 9) : val_main_v28 (F := Ideal) (ix3 cc k 0) = BitVec.ofNat 32 (cc.val + k.val) := by
  unfold val_main_v28 val_main_v27 val_main_v26 val_main_v25 val_main_c_2 val_main_v24 val_main_v23 val_main_c_1 val_main_v22 val_main_v21 val_main_v20 val_main_v19 val_main_v18 val_main_v17 val_main_v16
  pointwise
  revert cc k
  decide +kernel

/-- The same for the values. -/
theorem v36_apply (cc : Fin 64) (k : Fin 9) : val_main_v36 (F := Ideal) (ix3 cc k 0) = BitVec.ofNat 32 (cc.val + k.val) := by
  unfold val_main_v36 val_main_v35 val_main_v34 val_main_v33 val_main_c_4 val_main_v32 val_main_v31 val_main_c_3 val_main_v22 val_main_v21 val_main_v20 val_main_v19 val_main_v18 val_main_v17 val_main_v16
  pointwise
  revert cc k
  decide +kernel

/-- No band runs past the padded chunks, so that no start is clamped. -/
theorem start_eq : ∀ (cc : Fin 64) (k : Fin 9), min (BitVec.ofNat 32 (cc.val + k.val)).toInt.toNat 71 = cc.val + k.val := by
  decide +kernel

/-- The clipped distance, from the distance. -/
theorem clip_eq : ∀ n : Fin 640, Scalar.select
      (IntOp.cmpi CmpIPredicate.slt
        (IntOp.addi (IntOp.minsi 128#32 (IntOp.maxsi 4294967233#32 (BitVec.ofNat 32 n.val - 63#32))) 63#32) 0#32)
      (IntOp.addi (IntOp.addi (IntOp.minsi 128#32 (IntOp.maxsi 4294967233#32 (BitVec.ofNat 32 n.val - 63#32))) 63#32) 192#32)
      (IntOp.addi (IntOp.minsi 128#32 (IntOp.maxsi 4294967233#32 (BitVec.ofNat 32 n.val - 63#32))) 63#32)
    = BitVec.ofNat 32 (min 191 n.val) := by
  decide +kernel

/-- The column of the bias that a query and a slot of its band read. -/
theorem v60_apply (i : Fin 64) (j : Fin 576) : val_main_v60 (F := Ideal) (ix3 i j 0) = BitVec.ofNat 32 (min 191 (575 + i.val - j.val)) := by
  unfold val_main_v60 val_main_v59 val_main_v58 val_main_v57 val_main_c_10 val_main_v56 val_main_v55 val_main_c_9 val_main_v54 val_main_v53 val_main_c_8 val_main_v52 val_main_call2_v4 val_main_call2_v3 val_main_c_7 val_main_call2_v2 val_main_call2_v1 val_main_call2_v0 val_main_c_6 val_main_v51 val_main_v50 val_main_v49 val_main_v48 val_main_v47 val_main_v46 val_main_v45 val_main_c_5 val_main_v44 val_main_v43
  pointwise
  have hd : IntOp.subi (IntOp.addi (BitVec.ofNat 32 i.val) 512#32) (BitVec.ofNat 32 j.val) = BitVec.ofNat 32 (575 + i.val - j.val) - 63#32 := by
    show BitVec.ofNat 32 i.val + 512#32 - BitVec.ofNat 32 j.val = _
    apply BitVec.eq_of_toNat_eq
    simp only [BitVec.toNat_sub, BitVec.toNat_add, BitVec.toNat_ofNat]
    omega
  rw [hd]
  exact clip_eq ⟨575 + i.val - j.val, by omega⟩

/-- The bias of a query and a slot of its band. -/
theorem v61_apply (x2) (h : Fin 8) (i : Fin 64) (j : Fin 576) : (val_main_v61 (F := Ideal) x2 (ix3 h i j) : EReal) = x2 (ix2 h ⟨min 191 (575 + i.val - j.val), by omega⟩) := by
  unfold val_main_v61
  refine gatherBias_apply _ _ h i j _ ?_
  rw [v60_apply]
  have : ∀ n : Fin 192, min (BitVec.ofNat 32 n.val).toInt.toNat 191 = n.val := by decide +kernel
  exact this ⟨min 191 (575 + i.val - j.val), by omega⟩

/-- The chunk of a key within its band. -/
theorem div_eq : ∀ j : Fin 576, IntOp.divsi ArithUnit.host (BitVec.ofNat 32 j.val) 64#32 = BitVec.ofNat 32 (j.val / 64) := by
  decide +kernel

/-- Whether a band's chunk lies in the sequence. -/
theorem valid_eq : ∀ (cc : Fin 64) (k : Fin 9), IntOp.cmpi CmpIPredicate.sge
      (IntOp.addi (IntOp.subi (BitVec.ofNat 32 cc.val) 8#32) (BitVec.ofNat 32 k.val)) 0#32 = if 8 ≤ cc.val + k.val then 1#1 else 0#1 := by
  decide +kernel

/-- A slot is valid when it does not lie before the sequence. -/
theorem v77_apply (cc : Fin 64) (j : Fin 576) : val_main_v77 (F := Ideal) (ix2 cc j) = if 8 ≤ cc.val + j.val / 64 then 1#1 else 0#1 := by
  unfold val_main_v77 val_main_v76 val_main_c_13 val_main_v75 val_main_v74 val_main_v73 val_main_v72 val_main_v71 val_main_v70 val_main_c_12 val_main_v69 val_main_v68 val_main_v67 val_main_c_11 val_main_v66 val_main_v65
  pointwise
  rw [div_eq]
  exact valid_eq cc ⟨j.val / 64, by omega⟩

/-- The key in a valid slot. -/
theorem v30_apply (x0) (b : Fin 4) (h : Fin 8) (cc : Fin 64) (jj : Fin 576) (e : Fin 128) (hv : 8 ≤ cc.val + jj.val / 64) :
    (val_main_v30 (F := Ideal) x0 (ix5 b h cc jj e) : EReal) = x0 (ix3 b ⟨cc.val * 64 + jj.val - 512, by omega⟩ ⟨1024 + h.val * 128 + e.val, by omega⟩) := by
  unfold val_main_v30 val_main_v29 val_main_v13 val_main_v12 val_main_v8 val_main_v7 val_main_v3 val_main_v0
  pointwise
  refine (gather_apply _ _ b h cc ⟨jj.val / 64, by omega⟩ ⟨jj.val % 64, by omega⟩ e ⟨cc.val + jj.val / 64, by omega⟩ ?_).trans ?_
  · rw [v28_apply]
    exact start_eq cc ⟨jj.val / 64, by omega⟩
  pointwise
  rw [dif_pos (by omega)]
  refine congrArg₂ (fun p q => x0 (ix3 b p q)) (Fin.ext ?_) (Fin.ext ?_)
  · show (cc.val + jj.val / 64) * 64 + jj.val % 64 - 512 = cc.val * 64 + jj.val - 512
    omega
  · show 1024 + (h.val * 128 + e.val) = 1024 + h.val * 128 + e.val
    omega

/-- The value in a valid slot. -/
theorem v38_apply (x1) (b : Fin 4) (h : Fin 8) (cc : Fin 64) (jj : Fin 576) (e : Fin 128) (hv : 8 ≤ cc.val + jj.val / 64) :
    (val_main_v38 (F := Ideal) x1 (ix5 b h cc jj e) : EReal) = x1 (ix3 b ⟨cc.val * 64 + jj.val - 512, by omega⟩ ⟨3072 + h.val * 128 + e.val, by omega⟩) := by
  unfold val_main_v38 val_main_v37 val_main_v15 val_main_v14 val_main_v10 val_main_v9 val_main_v4 val_main_v1
  pointwise
  refine (gather_apply _ _ b h cc ⟨jj.val / 64, by omega⟩ ⟨jj.val % 64, by omega⟩ e ⟨cc.val + jj.val / 64, by omega⟩ ?_).trans ?_
  · rw [v36_apply]
    exact start_eq cc ⟨jj.val / 64, by omega⟩
  pointwise
  rw [dif_pos (by omega)]
  refine congrArg₂ (fun p q => x1 (ix3 b p q)) (Fin.ext ?_) (Fin.ext ?_)
  · show (cc.val + jj.val / 64) * 64 + jj.val % 64 - 512 = cc.val * 64 + jj.val - 512
    omega
  · show 3072 + (h.val * 128 + e.val) = 3072 + h.val * 128 + e.val
    omega

/-- A query, in chunks. -/
theorem v11_apply (x0) (b : Fin 4) (h : Fin 8) (cc : Fin 64) (i : Fin 64) (e : Fin 128) :
    (val_main_v11 (F := Ideal) x0 (ix5 b h cc i e) : EReal) = x0 (ix3 b ⟨cc.val * 64 + i.val, by omega⟩ ⟨h.val * 128 + e.val, by omega⟩) := by
  unfold val_main_v11 val_main_v6 val_main_v5 val_main_v2 val_main_v0
  pointwise

/-- The result, from the attention in chunks. -/
theorem v95_apply (x0 x1 x2) (b : Fin 4) (h : Fin 8) (a : Fin 4096) (d : Fin 128) :
    (val_main_v95 (F := Ideal) x0 x1 x2 (ix3 b a ⟨h.val * 128 + d.val, by omega⟩) : EReal) = val_main_v91 (F := Ideal) x0 x1 x2 (ix5 b h ⟨a.val / 64, by omega⟩ ⟨a.val % 64, by omega⟩ d) := by
  unfold val_main_v95 val_main_v94 val_main_v93 val_main_v92
  generalize val_main_v91 (F := Ideal) x0 x1 x2 = Y
  pointwise

end Cert.Proof.AttnLayout
-- ==== Proof.AttnReference.lean ====
/-
  The attention reference (`ReferenceIdeal`), from its stored result back to the three arguments. Each query attends to
  576 places, its own chunk and the 512 before it; the places before the sequence begins are masked. Read over the
  whole sequence it is a softmax of scores that are minus infinity outside the query's band.
-/
module

public import proofs.«01_k».proof.Proof.AttnLayout
public import proofs.«01_k».proof.Proof.MaskedSoftmax
public import proofs.«01_k».proof.Proof.Facts

@[expose] public section

set_option maxRecDepth 16384

noncomputable section

open Idealize.ShloMosaic Idealize.ShloMosaic.TcCoe Idealize.SL.Sem
open Idealize.ShloMosaic.Pipeline (Dat)

namespace Cert.Proof.AttnReference
open Cert.ReferenceIdeal Cert.ReferenceIdeal.Gen Cert.ReferenceIdeal.Read Cert.Proof.AttnLayout Cert.Proof.MaskedSoftmax

/-- The largest score of a row. -/
theorem v80_apply (x0 x2) (b : Fin 4) (h : Fin 8) (cc i : Fin 64) :
    (val_main_v80 (F := Ideal) x0 x2 (ix4 b h cc i) : EReal) = Finset.univ.sup fun j : Fin 576 => (val_main_v79 (F := Ideal) x0 x2 (ix5 b h cc i j) : EReal) := by
  unfold val_main_v80 val_main_cst_15
  generalize val_main_v79 (F := Ideal) x0 x2 = S
  pointwise
  exact fold_max _

/-- The word of minus infinity. -/
theorem ninf : Ideal.ofBits .f32 0xFF800000#32 = ⊥ := by
  simp [Ideal.ofBits, Ideal.ieee]

/-- The largest score of a row, after its maximum with minus infinity. -/
theorem v82_apply (x0 x2) (b : Fin 4) (h : Fin 8) (cc i : Fin 64) :
    (val_main_v82 (F := Ideal) x0 x2 (ix4 b h cc i) : EReal) = Finset.univ.sup fun j : Fin 576 => (val_main_v79 (F := Ideal) x0 x2 (ix5 b h cc i j) : EReal) := by
  rw [← v80_apply, val_main_v82_apply, val_main_v81_apply, val_main_cst_16_apply]
  generalize (val_main_v80 (F := Ideal) x0 x2 (ix4 b h cc i) : EReal) = M
  show max (Ideal.ofBits .f32 0xFF800000#32) M = M
  rw [ninf]
  exact max_eq_right bot_le

/-- The exponential of a score, less the largest. -/
theorem v86_apply (x0 x2) (b : Fin 4) (h : Fin 8) (cc i : Fin 64) (j : Fin 576) :
    (val_main_v86 (F := Ideal) x0 x2 (ix5 b h cc i j) : EReal) = Ideal.exp ((val_main_v79 (F := Ideal) x0 x2 (ix5 b h cc i j) : EReal) - Finset.univ.sup fun j : Fin 576 => (val_main_v79 (F := Ideal) x0 x2 (ix5 b h cc i j) : EReal)) := by
  rw [← v82_apply]
  unfold val_main_v86 val_main_v85 val_main_v84 val_main_v83
  generalize val_main_v82 (F := Ideal) x0 x2 = M
  generalize val_main_v79 (F := Ideal) x0 x2 = S
  pointwise

/-- The sum of a row of exponentials. -/
theorem v87_apply (x0 x2) (b : Fin 4) (h : Fin 8) (cc i : Fin 64) :
    (val_main_v87 (F := Ideal) x0 x2 (ix4 b h cc i) : EReal) = ∑ j : Fin 576, (val_main_v86 (F := Ideal) x0 x2 (ix5 b h cc i j) : EReal) := by
  rw [val_main_v87_apply]
  refine (congrArg₂ (· + ·) ?_ (Finset.sum_congr rfl fun j _ => congrArg _ (?_ : idx_main_v87 (ix4 b h cc i) j = ix5 b h cc i j))).trans (zero_add _)
  · show Ideal.ofBits .f32 0#32 = 0
    simp [Ideal.ofBits, Ideal.ieee]
  · funext a
    match a with
    | ⟨0, _⟩ => rfl
    | ⟨1, _⟩ => rfl
    | ⟨2, _⟩ => rfl
    | ⟨3, _⟩ => rfl
    | ⟨4, _⟩ => rfl

/-- A weight of the softmax. -/
theorem v90_apply (x0 x2) (b : Fin 4) (h : Fin 8) (cc i : Fin 64) (j : Fin 576) :
    (val_main_v90 (F := Ideal) x0 x2 (ix5 b h cc i j) : EReal) = Ideal.div (val_main_v86 (F := Ideal) x0 x2 (ix5 b h cc i j)) (val_main_v87 (F := Ideal) x0 x2 (ix4 b h cc i)) := by
  unfold val_main_v90 val_main_v89 val_main_v88
  generalize val_main_v87 (F := Ideal) x0 x2 = M
  generalize val_main_v86 (F := Ideal) x0 x2 = S
  pointwise

/-- The attention of one query, over its 576 places. -/
theorem v91_apply (x0 x1 x2) (b : Fin 4) (h : Fin 8) (cc : Fin 64) (i : Fin 64) (d : Fin 128) :
    (val_main_v91 (F := Ideal) x0 x1 x2 (ix5 b h cc i d) : EReal) = soft (fun j : Fin 576 => (val_main_v79 (F := Ideal) x0 x2 (ix5 b h cc i j) : EReal)) (fun j => (val_main_v38 (F := Ideal) x1 (ix5 b h cc j d) : EReal)) := by
  rw [val_main_v91_apply]
  unfold soft
  refine Finset.sum_congr rfl fun j _ => ?_
  have hl : lidx_main_v91 (ix5 b h cc i d) j = ix5 b h cc i j := by
    funext a
    match a with
    | ⟨0, _⟩ => rfl
    | ⟨1, _⟩ => rfl
    | ⟨2, _⟩ => rfl
    | ⟨3, _⟩ => rfl
    | ⟨4, _⟩ => rfl
  have hr : ridx_main_v91 (ix5 b h cc i d) j = ix5 b h cc j d := by
    funext a
    match a with
    | ⟨0, _⟩ => rfl
    | ⟨1, _⟩ => rfl
    | ⟨2, _⟩ => rfl
    | ⟨3, _⟩ => rfl
    | ⟨4, _⟩ => rfl
  rw [hl, hr, v90_apply, v87_apply]
  simp only [v86_apply]

/-- A product of a query and a key. -/
theorem v39_apply (x0) (b : Fin 4) (h : Fin 8) (cc i : Fin 64) (j : Fin 576) :
    (val_main_v39 (F := Ideal) x0 (ix5 b h cc i j) : EReal) = ∑ e : Fin 128, (val_main_v11 (F := Ideal) x0 (ix5 b h cc i e) : EReal) * val_main_v30 (F := Ideal) x0 (ix5 b h cc j e) := by
  rw [val_main_v39_apply]
  refine Finset.sum_congr rfl fun e _ => ?_
  have hl : lidx_main_v39 (ix5 b h cc i j) e = ix5 b h cc i e := by
    funext a
    match a with
    | ⟨0, _⟩ => rfl
    | ⟨1, _⟩ => rfl
    | ⟨2, _⟩ => rfl
    | ⟨3, _⟩ => rfl
    | ⟨4, _⟩ => rfl
  have hr : ridx_main_v39 (ix5 b h cc i j) e = ix5 b h cc j e := by
    funext a
    match a with
    | ⟨0, _⟩ => rfl
    | ⟨1, _⟩ => rfl
    | ⟨2, _⟩ => rfl
    | ⟨3, _⟩ => rfl
    | ⟨4, _⟩ => rfl
  rw [hl, hr]

/-- Division by the square root of 128. -/
theorem div_sqrt (x : EReal) : Ideal.div x (Ideal.sqrt (Ideal.ofBits .f32 0x43000000#32)) = x * (((Real.sqrt 128)⁻¹ : ℝ) : EReal) := by
  have h : Ideal.ofBits .f32 0x43000000#32 = ((128 : ℝ) : EReal) := by
    simp [Ideal.ofBits, Ideal.ieee, -EReal.coe_mul]; norm_num
  rw [h]
  have h0 : (0 : ℝ) < Real.sqrt 128 := by positivity
  rw [show Ideal.sqrt ((128 : ℝ) : EReal) = ((Real.sqrt 128 : ℝ) : EReal) from if_neg (by norm_num),
    Facts.div_of_ne (by exact_mod_cast h0.ne'), EReal.coe_inv]

/-- A masked score. -/
theorem v79_apply (x0 x2) (b : Fin 4) (h : Fin 8) (cc : Fin 64) (i : Fin 64) (j : Fin 576) :
    (val_main_v79 (F := Ideal) x0 x2 (ix5 b h cc i j) : EReal) = Scalar.select (val_main_v77 (F := Ideal) (ix2 cc j))
      (Ideal.div (val_main_v39 (F := Ideal) x0 (ix5 b h cc i j)) (Ideal.sqrt (Ideal.ofBits .f32 0x43000000#32)) + val_main_v61 (F := Ideal) x2 (ix3 h i j)) ⊥ := by
  unfold val_main_v79 val_main_call3_v1 val_main_call3_v2 val_main_call3_v0 val_main_cst_14 val_main_v78 val_main_v64 val_main_v63 val_main_v62 val_main_v42 val_main_v41 val_main_v40 val_main_cst
  generalize val_main_v39 (F := Ideal) x0 = S
  generalize val_main_v61 (F := Ideal) x2 = B
  generalize val_main_v77 (F := Ideal) = C
  pointwise
  exact congrArg (Scalar.select _ _) ninf

/-- The place a query's chunk reads its slot `j` from. -/
def place (cc : Fin 64) (j : Fin 576) : Fin 4096 := ⟨cc.val * 64 + j.val - 512, by omega⟩

/-- The score of query `a` and key `p`: minus infinity unless `p` lies in `a`'s chunk or one of the eight before it. -/
def logit (A0 : S4x4096x2048.Idx → EReal) (A2 : S8x192.Idx → EReal) (b : Fin 4) (h : Fin 8) (a p : Fin 4096) : EReal :=
  if a.val / 64 ≤ p.val / 64 + 8 ∧ p.val / 64 ≤ a.val / 64 then
    (∑ e : Fin 128, A0 (ix3 b a ⟨h.val * 128 + e.val, by omega⟩) * A0 (ix3 b p ⟨1024 + h.val * 128 + e.val, by omega⟩)) * (((Real.sqrt 128)⁻¹ : ℝ) : EReal)
      + A2 (ix2 h ⟨min 191 (63 + a.val - p.val), by omega⟩)
  else ⊥

/-- A score within the band is that of the slot's place. -/
theorem v79_in (x0 x2) (b : Fin 4) (h : Fin 8) (a : Fin 4096) (j : Fin 576) (hj : 8 ≤ a.val / 64 + j.val / 64) :
    (val_main_v79 (F := Ideal) x0 x2 (ix5 b h ⟨a.val / 64, by omega⟩ ⟨a.val % 64, by omega⟩ j) : EReal) = logit x0 x2 b h a (place ⟨a.val / 64, by omega⟩ j) := by
  rw [v79_apply, v77_apply, if_pos hj, ValueIdx.select_one, div_sqrt, v39_apply, v61_apply]
  unfold logit
  have hp : (place ⟨a.val / 64, by omega⟩ j).val = a.val / 64 * 64 + j.val - 512 := rfl
  rw [if_pos ⟨by rw [hp]; omega, by rw [hp]; omega⟩]
  refine congrArg₂ (· + ·) (congrArg (· * _) (Finset.sum_congr rfl fun e _ => ?_)) (congrArg (fun q => x2 (ix2 h q)) (Fin.ext ?_))
  · rw [v11_apply, v30_apply x0 b h _ j e hj]
    exact congrArg (fun q => x0 (ix3 b q _) * _) (Fin.ext (by show a.val / 64 * 64 + a.val % 64 = a.val; omega))
  · show min 191 (575 + a.val % 64 - j.val) = min 191 (63 + a.val - (a.val / 64 * 64 + j.val - 512))
    omega

/-- Every score is a number or minus infinity, when the arguments are numbers. -/
theorem logit_real (A0 : S4x4096x2048.Idx → EReal) (A2 : S8x192.Idx → EReal) (h0 : ∀ i, ∃ r : ℝ, A0 i = (r : EReal)) (h2 : ∀ i, ∃ r : ℝ, A2 i = (r : EReal))
    (b : Fin 4) (h : Fin 8) (a p : Fin 4096) : logit A0 A2 b h a p = ⊥ ∨ ∃ r : ℝ, logit A0 A2 b h a p = (r : EReal) := by
  choose f0 hf0 using h0
  choose f2 hf2 using h2
  unfold logit
  split_ifs
  · right
    refine ⟨(∑ e : Fin 128, f0 (ix3 b a ⟨h.val * 128 + e.val, by omega⟩) * f0 (ix3 b p ⟨1024 + h.val * 128 + e.val, by omega⟩)) * (Real.sqrt 128)⁻¹
      + f2 (ix2 h ⟨min 191 (63 + a.val - p.val), by omega⟩), ?_⟩
    simp only [hf0, hf2, ← EReal.coe_mul, ← EReal.coe_add, coe_sum]
  · exact Or.inl rfl

/-- A query's score with itself is a number. -/
theorem logit_self (A0 : S4x4096x2048.Idx → EReal) (A2 : S8x192.Idx → EReal) (h0 : ∀ i, ∃ r : ℝ, A0 i = (r : EReal)) (h2 : ∀ i, ∃ r : ℝ, A2 i = (r : EReal))
    (b : Fin 4) (h : Fin 8) (a : Fin 4096) : logit A0 A2 b h a a ≠ ⊥ := by
  choose f0 hf0 using h0
  choose f2 hf2 using h2
  unfold logit
  rw [if_pos ⟨by omega, le_refl _⟩]
  simp only [hf0, hf2, ← EReal.coe_mul, ← EReal.coe_add, coe_sum]
  exact EReal.coe_ne_bot _

/-- The reference's result at an index. -/
theorem result (x0 x1 x2) (h0 : ∀ i, ∃ r : ℝ, x0 i = (r : EReal)) (h2 : ∀ i, ∃ r : ℝ, x2 i = (r : EReal))
    (b : Fin 4) (a : Fin 4096) (h : Fin 8) (d : Fin 128) :
    (val_main_v95 (F := Ideal) x0 x1 x2 (ix3 b a ⟨h.val * 128 + d.val, by omega⟩) : EReal)
      = soft (logit x0 x2 b h a) fun p => x1 (ix3 b p ⟨3072 + h.val * 128 + d.val, by omega⟩) := by
  rw [v95_apply, v91_apply]
  refine soft_along (place ⟨a.val / 64, by omega⟩) (fun j => 8 ≤ a.val / 64 + j.val / 64) _ _ _ _ (fun x y hx hy e => ?_) (fun x hx => v79_in x0 x2 b h a x hx)
    (fun x hx => ?_) (fun x hx => v38_apply x1 b h _ x d hx) (fun p hp => ?_) (logit_real x0 x2 h0 h2 b h a) a (logit_self x0 x2 h0 h2 b h a)
  · have e' : a.val / 64 * 64 + x.val - 512 = a.val / 64 * 64 + y.val - 512 := congrArg Fin.val e
    exact Fin.ext (by omega)
  · rw [v79_apply, v77_apply, if_neg hx]
    exact ValueIdx.select_zero _ _
  · unfold logit
    refine if_neg fun hb => ?_
    obtain ⟨hb1, hb2⟩ := hb
    refine hp ⟨p.val + 512 - a.val / 64 * 64, by omega⟩ (by show 8 ≤ a.val / 64 + (p.val + 512 - a.val / 64 * 64) / 64; omega) (Fin.ext ?_)
    show a.val / 64 * 64 + (p.val + 512 - a.val / 64 * 64) - 512 = p.val
    omega

end Cert.Proof.AttnReference
-- ==== Proof.ChunkAttention.lean ====
/-
  The chunked attention kernel: its named constants are what their words round, and on numbers it leaves the array
  that the reference leaves. The kernel scales its scores by the inverse of the logarithm of 2 and takes powers of 2,
  over a window of 640 keys of which it masks those outside the query's band; the reference takes exponentials, over
  the band alone.
-/
module

public import proofs.«01_k».proof.Defs
public import proofs.«01_k».proof.Proof.AttnKernel
public import proofs.«01_k».proof.Proof.AttnReference
public import proofs.«01_k».proof.Proof.Gen.ReferenceIdeal.Run
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Proof.ChunkAttention

open Cert.Proof.MaskedSoftmax Cert.Proof.AttnKernel Cert.Proof.AttnReference

/-- The three named constants, each near the word it stands for. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- A number whose absolute value is below plus infinity is real. -/
theorem real_of_bit (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- What the precondition says: the projections and the bias hold numbers. -/
theorem reals (x0 x1 x2) (h : Cert.Pre_finite.fn (F := Ideal) x0 x1 x2 = constantI Cert.Pre_finite.S_ 1 1#1) :
    (∀ i, ∃ r : ℝ, (x0 i : EReal) = (r : EReal)) ∧ ∀ i, ∃ r : ℝ, (x2 i : EReal) = (r : EReal) := by
  have e := congrFun h ix0
  unfold Cert.Pre_finite.fn at e
  obtain ⟨e1, e2⟩ := IntOp.andi_eq_one.1 e
  haveI : Subsingleton Cert.Pre_finite.S_.Idx := ⟨fun i j => funext fun a => a.elim0⟩
  exact ⟨fun i => real_of_bit _ (Host.reduce_andi_all _ _ _ _ _ e1 i), fun i => real_of_bit _ (Host.reduce_andi_all _ _ _ _ _ e2 i)⟩

/-- The kernel's score is the reference's, times the inverse of the logarithm of 2. -/
theorem scoreAt_eq (A0 : Cert.KernelIdeal.S4x4096x2048.Idx → EReal) (A2 : Cert.KernelIdeal.S8x192.Idx → EReal)
    (h0 : ∀ i, ∃ r : ℝ, A0 i = (r : EReal)) (h2 : ∀ i, ∃ r : ℝ, A2 i = (r : EReal))
    (b : Fin 4) (h : Fin 8) (a p : Fin 4096) : scoreAt A0 A2 b h a p = (((Real.log 2)⁻¹ : ℝ) : EReal) * logit A0 A2 b h a p := by
  choose f0 hf0 using h0
  choose f2 hf2 using h2
  have hl : (0 : ℝ) < (Real.log 2)⁻¹ := inv_pos.mpr (Real.log_pos (by norm_num))
  unfold scoreAt logit
  by_cases hw : p.val < 128 * (a.val / 128 + 1) ∧ 128 * (a.val / 128 + 1) ≤ p.val + 640
  · obtain ⟨hw1, hw2⟩ := hw
    rw [if_pos ⟨hw1, hw2⟩]
    unfold tabAt
    by_cases hb : a.val / 64 ≤ p.val / 64 + 8 ∧ p.val / 64 ≤ a.val / 64
    · obtain ⟨hb1, hb2⟩ := hb
      rw [if_pos ⟨by dsimp only; omega, by dsimp only; omega⟩, if_pos ⟨hb1, hb2⟩]
      have hc : clip (575 + a.val % 128 - (p.val + 640 - 128 * (a.val / 128 + 1)) % 640) = ⟨min 191 (63 + a.val - p.val), by omega⟩ := by
        refine Fin.ext ?_
        show min 191 (575 + a.val % 128 - (p.val + 640 - 128 * (a.val / 128 + 1)) % 640) = min 191 (63 + a.val - p.val)
        omega
      have hk : ∀ e : Fin 128, kcol h e = ⟨1024 + h.val * 128 + e.val, by omega⟩ := fun e => rfl
      have hq : ∀ e : Fin 128, qcol h e = ⟨h.val * 128 + e.val, by omega⟩ := fun e => rfl
      dsimp only
      rw [hc]
      simp only [hk, hq, hf0, hf2, ← EReal.coe_mul, ← EReal.coe_add, coe_sum]
      congr 1
      ring
    · rw [if_neg hb, if_neg (fun hc => hb (by obtain ⟨hc1, hc2⟩ := hc; dsimp only at hc1 hc2; omega)), EReal.add_bot, EReal.coe_mul_bot_of_pos hl]
  · rw [if_neg hw, if_neg (fun hb => hw (by omega)), EReal.coe_mul_bot_of_pos hl]

/-- The kernel's result and the reference's at an index. -/
theorem same (m : (ℓ : Loc Cert.KernelIdeal.nD Cert.KernelIdeal.τ Cert.KernelIdeal.sig) → Buf (Elt Ideal) ℓ) (c : Dev Cert.KernelIdeal.nD)
    (h0 : ∀ i, ∃ r : ℝ, arg0 m c i = (r : EReal)) (h2 : ∀ i, ∃ r : ℝ, arg2 m c i = (r : EReal))
    (b : Fin 4) (a : Fin 4096) (h : Fin 8) (d : Fin 128) :
    ((Cert.KernelIdeal.Gen.dats m 0 c).arrAt 4 Cert.KernelIdeal.cfg0.N : Cert.KernelIdeal.S4x4096x1024.Idx → EReal) (ix3 b a (ocol h d))
      = (Cert.ReferenceIdeal.Read.val_main_v95 (F := Ideal) (arg0 m c) (arg1 m c) (arg2 m c) (ix3 b a ⟨h.val * 128 + d.val, by omega⟩) : EReal) := by
  rw [AttnKernel.result, AttnReference.result _ _ _ h0 h2, show scoreAt (arg0 m c) (arg2 m c) b h a = _ from funext fun p => scoreAt_eq _ _ h0 h2 b h a p,
    att_eq_soft _ _ (logit_real _ _ h0 h2 b h a) a (logit_self _ _ h0 h2 b h a)]
  rfl

/-- The two arrays, when the projections and the bias hold numbers. -/
theorem same_array (m : (ℓ : Loc Cert.KernelIdeal.nD Cert.KernelIdeal.τ Cert.KernelIdeal.sig) → Buf (Elt Ideal) ℓ) (c : Dev Cert.KernelIdeal.nD)
    (h0 : ∀ i, ∃ r : ℝ, arg0 m c i = (r : EReal)) (h2 : ∀ i, ∃ r : ℝ, arg2 m c i = (r : EReal)) :
    Cert.ReferenceIdeal.Read.val_main_v95 (F := Ideal) (arg0 m c) (arg1 m c) (arg2 m c) = (Cert.KernelIdeal.Gen.dats m 0 c).arrAt 4 Cert.KernelIdeal.cfg0.N := by
  funext i
  idx_vars i
  have hk : i2 = ocol ⟨i2.val / 128, by omega⟩ ⟨i2.val % 128, by omega⟩ := Fin.ext (by show i2.val = i2.val / 128 * 128 + i2.val % 128; omega)
  rw [hk]
  exact (same m c h0 h2 i0 i1 _ _).symm

/-- On numbers the chunked attention and the reference leave the same array. -/
theorem algebraic : Cert.algebraic_KernelIdeal_ReferenceIdeal_pre_finite := fun m ρ m' ρ' hpre hag =>
  ⟨fun c => (Cert.KernelIdeal.Gen.dats m 0 c).arrAt 4 Cert.KernelIdeal.cfg0.N, Cert.KernelIdeal.Value.run_blocks m ρ, (θ_run _ _ _).mono (fun _ h c => ⟨(h c).1.trans (by
    obtain ⟨h0, h1, h2⟩ := hag c
    rw [Cert.ReferenceIdeal.Read.val_main_v95_eq, h0, h1, h2]
    obtain ⟨r0, r2⟩ := reals _ _ _ (hpre c)
    exact same_array m c r0 r2), (h c).2⟩) (Cert.ReferenceIdeal.Value.run m' ρ')⟩

end Cert.Proof.ChunkAttention
-- ==== Proof.FfnFirst.lean ====
/-
  The first feed-forward block (`Kernel2Ideal`). The kernel walks the hidden axis in eleven tiles and adds each tile's
  share onto the residual row in the output block, the normalised row kept in a scratch; the last tile also writes the
  normalised sum. Read at the extended reals, that is what the reference `Reference2Ideal` leaves.
-/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import proofs.«01_k».proof.Proof.Facts

@[expose] public section

set_option maxRecDepth 16384

noncomputable section

open Idealize.ShloMosaic Idealize.ShloMosaic.TcCoe Idealize.SL.Sem
open Idealize.ShloMosaic.Pipeline (Dat)

namespace Cert.Proof.FfnFirst

open Cert.Kernel2Ideal Cert.Kernel2Ideal.Gen

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- Argument 0, as numbers. -/
abbrev arg0 : S16384x2048.Idx → EReal := m ((c : Thread nD τ).loc main_arg0)

/-- Argument 1, as numbers. -/
abbrev arg1 : S1x2048.Idx → EReal := m ((c : Thread nD τ).loc main_arg1)

/-- Argument 2, as numbers. -/
abbrev arg2 : S2048x5632.Idx → EReal := m ((c : Thread nD τ).loc main_arg2)

/-- Argument 3, as numbers. -/
abbrev arg3 : S2048x5632.Idx → EReal := m ((c : Thread nD τ).loc main_arg3)

/-- Argument 4, as numbers. -/
abbrev arg4 : S5632x2048.Idx → EReal := m ((c : Thread nD τ).loc main_arg4)

/-- Argument 5, as numbers. -/
abbrev arg5 : S1x2048.Idx → EReal := m ((c : Thread nD τ).loc main_arg5)

/-- At the first tile of a row block the output block is the residual rows plus the first share. -/
theorem out0_A_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (hc0 : cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) :
    out0_A_6 (F := Ideal) c i arg2 harg2 arg3 harg3 arg4 harg4 arg5 harg5 arg6 harg6 arg7 harg7 arg8 harg8 arg9 harg9 arg10 harg10 hc0 hc1 x0 x1 x2 x3 x4 x5 = k0_pay2 (k0_pay1 x0 x1) x2 x3 x0 x4 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S1x2048) hz, View.ld_unit_zero (S := S2048x512) hz]

/-- At the first tile the scratch ends at the normalised rows. -/
theorem sout0_A_0_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (hc0 : cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) :
    sout0_A_0 (F := Ideal) c i arg2 harg2 arg3 harg3 arg4 harg4 arg5 harg5 arg6 harg6 arg7 harg7 arg8 harg8 arg9 harg9 arg10 harg10 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S1x2048) hz, View.ld_unit_zero (S := S2048x512) hz]

/-- At a tile in between one more share is added. -/
theorem out0_B_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (hc0 : ¬cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S512x2048 .f32) (xs0 : Vec Ideal S512x2048 .bf16) :
    out0_B_6 (F := Ideal) c i arg2 harg2 arg3 harg3 arg4 harg4 arg5 harg5 arg6 harg6 arg7 harg7 arg8 harg8 arg9 harg9 arg10 harg10 hc0 hc1 x0 x1 x2 x3 x4 x5 xo6 xs0 = k0_pay2 xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xo6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S1x2048) hz, View.ld_unit_zero (S := S2048x512) hz]

/-- At the last tile one more share is added. -/
theorem out0_C_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (hc0 : ¬cond0_0 i) (hc1 : cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S512x2048 .f32) (xs0 : Vec Ideal S512x2048 .bf16) :
    out0_C_6 (F := Ideal) c i arg2 harg2 arg3 harg3 arg4 harg4 arg5 harg5 arg6 harg6 arg7 harg7 arg8 harg8 arg9 harg9 arg10 harg10 hc0 hc1 x0 x1 x2 x3 x4 x5 xo6 xs0 = k0_pay2 xs0 x2 x3 xo6 x4 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xo6 xs0)]
  unfold kernelRun0_C
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S1x2048) hz, View.ld_unit_zero (S := S2048x512) hz]

/-- At the last tile the normalised sum is written. -/
theorem out0_C_7_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (hc0 : ¬cond0_0 i) (hc1 : cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S512x2048 .f32) (xs0 : Vec Ideal S512x2048 .bf16) :
    out0_C_7 (F := Ideal) c i arg2 harg2 arg3 harg3 arg4 harg4 arg5 harg5 arg6 harg6 arg7 harg7 arg8 harg8 arg9 harg9 arg10 harg10 hc0 hc1 x0 x1 x2 x3 x4 x5 xo6 xs0 = k0_pay3 (k0_pay2 xs0 x2 x3 xo6 x4) x5 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xo6 xs0)]
  unfold kernelRun0_C
  dsimp only
  sl_unfold_words
  rw [View.canon_unit_zero hz]
  simp only [View.readCov_unit_zero (S := S512x2048) _ hz, View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S1x2048) hz, View.ld_unit_zero (S := S2048x512) hz]

/-- The first tile of a row block. -/
theorem outs_first (t : Fin cfg0.N) (h0 : t.val % 11 = 0) :
    (outsAt0 m c t.val t.isLt).1 = k0_pay2 (k0_pay1 (iblk m c 0 t) (iblk m c 1 t)) (iblk m c 2 t) (iblk m c 3 t) (iblk m c 0 t) (iblk m c 4 t)
      ∧ (outsAt0 m c t.val t.isLt).2.2 = k0_pay1 (iblk m c 0 t) (iblk m c 1 t) := by
  rw [outsAt0_A m c t h0 (by omega), out0_A_6_eq, sout0_A_0_eq]
  exact ⟨rfl, rfl⟩

/-- A tile in between. -/
theorem outs_mid (t : Fin cfg0.N) (h0 : ¬t.val % 11 = 0) (h1 : ¬t.val % 11 = 10) :
    (outsAt0 m c t.val t.isLt).1 = k0_pay2 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)
      ∧ (outsAt0 m c t.val t.isLt).2.2 = (outsAt0 m c (t.val - 1) (Nat.lt_of_le_of_lt (Nat.sub_le _ _) t.isLt)).2.2 := by
  rw [outsAt0_B m c t h0 h1, out0_B_6_eq]
  exact ⟨rfl, rfl⟩

/-- The last tile of a row block. -/
theorem outs_last (t : Fin cfg0.N) (h0 : ¬t.val % 11 = 0) (h1 : t.val % 11 = 10) :
    (outsAt0 m c t.val t.isLt).1 = k0_pay2 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)
      ∧ (outsAt0 m c t.val t.isLt).2.2 = (outsAt0 m c (t.val - 1) (Nat.lt_of_le_of_lt (Nat.sub_le _ _) t.isLt)).2.2
      ∧ (outsAt0 m c t.val t.isLt).2.1 = k0_pay3 (k0_pay2 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)) (iblk m c 5 t) := by
  rw [outsAt0_C m c t h0 h1, out0_C_6_eq, out0_C_7_eq]
  exact ⟨rfl, rfl, rfl⟩

/-- The index maps, decided over the grid: point `t` is hidden tile `t % 11` of row block `t / 11`. -/
theorem idx_facts : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] :=
  (by decide +kernel : ∀ t : Fin grid0.N, _)

theorem lt_N (t : Fin cfg0.N) : t.val < 352 := lt_of_lt_of_eq t.isLt N_0

/-- Row `r` of row block `j`, as a row of the array. -/
def row (j : ℕ) (r : Fin 512) : Fin 16384 := ⟨(j * 512 + r.val) % 16384, Nat.mod_lt _ (by decide)⟩

/-- Position `n` of the hidden axis. -/
def hid (n : ℕ) : Fin 5632 := ⟨n % 5632, Nat.mod_lt _ (by decide)⟩

/-- The host's cast of weight 2, as numbers. -/
theorem V_cast2 : (V m c main_v0 : S2048x5632.Idx → EReal) = arg2 m c := by
  unfold V hostOps0
  after_results
  rfl

/-- The host's cast of weight 3, as numbers. -/
theorem V_cast3 : (V m c main_v1 : S2048x5632.Idx → EReal) = arg3 m c := by
  unfold V hostOps0
  after_results
  rfl

/-- The host's cast of weight 4, as numbers. -/
theorem V_cast4 : (V m c main_v2 : S5632x2048.Idx → EReal) = arg4 m c := by
  unfold V hostOps0
  after_results
  rfl

theorem blk0 (t : Fin cfg0.N) (r : Fin 512) (k : Fin 2048) :
    (iblk m c 0 t (ix2 r k) : EReal) = arg0 m c (ix2 (row (t.val / 11) r) k) := by
  have hN := lt_N t
  obtain ⟨h, -⟩ := idx_facts t
  show V m c main_arg0 (((cfg0.win 0).blk t).view.emb (ix2 r k)) = _
  rw [V_main_arg0]
  refine congrArg _ (Shape.idx_ext₂ ?_ ?_)
  · show win0_0.index t (0 : Fin 2) * 512 + 1 * r.val = (t.val / 11 * 512 + r.val) % 16384; rw [h]; simp; omega
  · show win0_0.index t (1 : Fin 2) * 2048 + 1 * k.val = k.val; rw [h]; simp

theorem blk2 (t : Fin cfg0.N) (r : Fin 2048) (k : Fin 512) :
    (iblk m c 2 t (ix2 r k) : EReal) = arg2 m c (ix2 r (hid (t.val % 11 * 512 + k.val))) := by
  have hN := lt_N t
  obtain ⟨-, -, h, -⟩ := idx_facts t
  show V m c main_v0 (((cfg0.win 2).blk t).view.emb (ix2 r k)) = _
  rw [V_cast2 m c]
  refine congrArg _ (Shape.idx_ext₂ ?_ ?_)
  · show win0_2.index t (0 : Fin 2) * 2048 + 1 * r.val = r.val; rw [h]; simp
  · show win0_2.index t (1 : Fin 2) * 512 + 1 * k.val = (t.val % 11 * 512 + k.val) % 5632; rw [h]; simp; omega

theorem blk3 (t : Fin cfg0.N) (r : Fin 2048) (k : Fin 512) :
    (iblk m c 3 t (ix2 r k) : EReal) = arg3 m c (ix2 r (hid (t.val % 11 * 512 + k.val))) := by
  have hN := lt_N t
  obtain ⟨-, -, -, h, -⟩ := idx_facts t
  show V m c main_v1 (((cfg0.win 3).blk t).view.emb (ix2 r k)) = _
  rw [V_cast3 m c]
  refine congrArg _ (Shape.idx_ext₂ ?_ ?_)
  · show win0_3.index t (0 : Fin 2) * 2048 + 1 * r.val = r.val; rw [h]; simp
  · show win0_3.index t (1 : Fin 2) * 512 + 1 * k.val = (t.val % 11 * 512 + k.val) % 5632; rw [h]; simp; omega

theorem blk4 (t : Fin cfg0.N) (r : Fin 512) (k : Fin 2048) :
    (iblk m c 4 t (ix2 r k) : EReal) = arg4 m c (ix2 (hid (t.val % 11 * 512 + r.val)) k) := by
  have hN := lt_N t
  obtain ⟨-, -, -, -, h, -⟩ := idx_facts t
  show V m c main_v2 (((cfg0.win 4).blk t).view.emb (ix2 r k)) = _
  rw [V_cast4 m c]
  refine congrArg _ (Shape.idx_ext₂ ?_ ?_)
  · show win0_4.index t (0 : Fin 2) * 512 + 1 * r.val = (t.val % 11 * 512 + r.val) % 5632; rw [h]; simp; omega
  · show win0_4.index t (1 : Fin 2) * 2048 + 1 * k.val = k.val; rw [h]; simp

theorem blk1 (t : Fin cfg0.N) (k : Fin 2048) :
    (iblk m c 1 t (ix2 (0 : Fin 1) k) : EReal) = arg1 m c (ix2 (0 : Fin 1) k) := by
  have hN := lt_N t
  obtain ⟨-, h, -⟩ := idx_facts t
  show V m c main_arg1 (((cfg0.win 1).blk t).view.emb (ix2 (0 : Fin 1) k)) = _
  rw [V_main_arg1]
  refine congrArg _ (Shape.idx_ext₂ ?_ ?_)
  · show win0_1.index t (0 : Fin 2) * 1 + 1 * 0 = 0; rw [h]; simp
  · show win0_1.index t (1 : Fin 2) * 2048 + 1 * k.val = k.val; rw [h]; simp

theorem blk5 (t : Fin cfg0.N) (k : Fin 2048) :
    (iblk m c 5 t (ix2 (0 : Fin 1) k) : EReal) = arg5 m c (ix2 (0 : Fin 1) k) := by
  have hN := lt_N t
  obtain ⟨-, -, -, -, -, h⟩ := idx_facts t
  show V m c main_arg5 (((cfg0.win 5).blk t).view.emb (ix2 (0 : Fin 1) k)) = _
  rw [V_main_arg5]
  refine congrArg _ (Shape.idx_ext₂ ?_ ?_)
  · show win0_5.index t (0 : Fin 2) * 1 + 1 * 0 = 0; rw [h]; simp
  · show win0_5.index t (1 : Fin 2) * 2048 + 1 * k.val = k.val; rw [h]; simp

/-- The normalised rows, at an index. -/
theorem pay1_apply (x : Vec Ideal S512x2048 .f32) (g : Vec Ideal S1x2048 .f32) (r : Fin 512) (k : Fin 2048) :
    (k0_pay1 (F := Ideal) x g (ix2 r k) : EReal) = Facts.rms 0x45000000#32 (fun j => (x (ix2 r j) : EReal)) (fun j => g (ix2 (0 : Fin 1) j)) k := by
  unfold Facts.rms
  unfold_payloads
  pointwise

/-- The rows normalised at the end, at an index. -/
theorem pay3_apply (x : Vec Ideal S512x2048 .f32) (g : Vec Ideal S1x2048 .f32) (r : Fin 512) (k : Fin 2048) :
    (k0_pay3 (F := Ideal) x g (ix2 r k) : EReal) = Facts.rms 0x45000000#32 (fun j => (x (ix2 r j) : EReal)) (fun j => g (ix2 (0 : Fin 1) j)) k := by
  unfold Facts.rms
  unfold_payloads
  pointwise

/-- One share, at an index. -/
theorem pay2_apply (h : Vec Ideal S512x2048 .bf16) (wg wu : Vec Ideal S2048x512 .bf16) (acc : Vec Ideal S512x2048 .f32)
    (wd : Vec Ideal S512x2048 .bf16) (r : Fin 512) (q : Fin 2048) :
    (k0_pay2 (F := Ideal) h wg wu acc wd (ix2 r q) : EReal) = (acc (ix2 r q) : EReal) + ∑ f : Fin 512,
      Facts.act (∑ k : Fin 2048, (h (ix2 r k) : EReal) * wg (ix2 k f)) (∑ k : Fin 2048, (h (ix2 r k) : EReal) * wu (ix2 k f))
        * wd (ix2 f q) := by
  unfold Facts.act
  unfold_payloads
  pointwise

/-- The normalised row `a`, at column `k`. -/
def hrow (x : S16384x2048.Idx → EReal) (nin : S1x2048.Idx → EReal) (a : Fin 16384) (k : Fin 2048) : EReal :=
  Facts.rms 0x45000000#32 (fun j => x (ix2 a j)) (fun j => nin (ix2 (0 : Fin 1) j)) k

/-- The share of hidden position `f` in the sum at row `a` and column `b`. -/
def share (x : S16384x2048.Idx → EReal) (nin : S1x2048.Idx → EReal) (wg wu : S2048x5632.Idx → EReal) (wd : S5632x2048.Idx → EReal)
    (a : Fin 16384) (b : Fin 2048) (f : Fin 5632) : EReal :=
  Facts.act (∑ k : Fin 2048, hrow x nin a k * wg (ix2 k f)) (∑ k : Fin 2048, hrow x nin a k * wu (ix2 k f)) * wd (ix2 f b)

/-- The residual plus the shares of the first `n` hidden positions. -/
def accAt (x : S16384x2048.Idx → EReal) (nin : S1x2048.Idx → EReal) (wg wu : S2048x5632.Idx → EReal) (wd : S5632x2048.Idx → EReal)
    (n : ℕ) (a : Fin 16384) (b : Fin 2048) : EReal :=
  x (ix2 a b) + ∑ j ∈ Finset.range n, share x nin wg wu wd a b (hid j)

/-- The block's sum as the reference writes it: the residual plus half the gated unit's projection. -/
def sumAt (x : S16384x2048.Idx → EReal) (nin : S1x2048.Idx → EReal) (wg wu : S2048x5632.Idx → EReal) (wd : S5632x2048.Idx → EReal)
    (a : Fin 16384) (b : Fin 2048) : EReal :=
  x (ix2 a b) + Ideal.ofBits .f32 0x3F000000#32 * ∑ f : Fin 5632,
    ((∑ k : Fin 2048, hrow x nin a k * wg (ix2 k f)) * Facts.sig (∑ k : Fin 2048, hrow x nin a k * wg (ix2 k f))
      * (∑ k : Fin 2048, hrow x nin a k * wu (ix2 k f))) * wd (ix2 f b)

/-- All shares together are the reference's sum. -/
theorem accAt_all (x : S16384x2048.Idx → EReal) (nin : S1x2048.Idx → EReal) (wg wu : S2048x5632.Idx → EReal) (wd : S5632x2048.Idx → EReal) (a : Fin 16384) (b : Fin 2048) :
    accAt x nin wg wu wd 5632 a b = sumAt x nin wg wu wd a b := by
  unfold accAt sumAt
  rw [Facts.half, Facts.coe_mul_sum _ _ _ (by norm_num), Finset.sum_range]
  refine congrArg (x (ix2 a b) + ·) (Finset.sum_congr rfl fun f _ => ?_)
  have hf : hid f.val = f := Fin.ext (Nat.mod_eq_of_lt f.isLt)
  rw [hf]
  unfold share
  rw [Facts.act_eq, Facts.half, mul_assoc]

/-- Tile `j` adds its 512 shares. -/
theorem accAt_block (x : S16384x2048.Idx → EReal) (nin : S1x2048.Idx → EReal) (wg wu : S2048x5632.Idx → EReal) (wd : S5632x2048.Idx → EReal) (j : ℕ) (a : Fin 16384) (b : Fin 2048) :
    accAt x nin wg wu wd (j * 512 + 512) a b
      = accAt x nin wg wu wd (j * 512) a b + ∑ f : Fin 512, share x nin wg wu wd a b (hid (j * 512 + f.val)) := by
  unfold accAt
  rw [Facts.sum_range_block, add_assoc]

/-- The scratch at every point of a row block: the block's normalised rows. -/
theorem scratch (n : ℕ) (hn : n < cfg0.N) (r : Fin 512) (k : Fin 2048) :
    ((outsAt0 m c n hn).2.2 (ix2 r k) : EReal) = hrow (arg0 m c) (arg1 m c) (row (n / 11) r) k := by
  have first : ∀ t : Fin cfg0.N, (k0_pay1 (F := Ideal) (iblk m c 0 t) (iblk m c 1 t) (ix2 r k) : EReal)
      = hrow (arg0 m c) (arg1 m c) (row (t.val / 11) r) k := fun t => by
    refine (pay1_apply _ _ r k).trans ?_
    simp only [blk0, blk1]
    rfl
  induction n with
  | zero =>
    have e := (outs_first m c ⟨0, hn⟩ (by rfl)).2
    dsimp only at e
    rw [e]
    exact first ⟨0, hn⟩
  | succ n ih =>
    by_cases h0 : (n + 1) % 11 = 0
    · have e := (outs_first m c ⟨n + 1, hn⟩ h0).2
      dsimp only at e
      rw [e]
      exact first ⟨n + 1, hn⟩
    · have e : (outsAt0 m c (n + 1) hn).2.2 = (outsAt0 m c n (Nat.lt_of_succ_lt hn)).2.2 := by
        by_cases h1 : (n + 1) % 11 = 10
        · exact (outs_last m c ⟨n + 1, hn⟩ h0 h1).2.1
        · exact (outs_mid m c ⟨n + 1, hn⟩ h0 h1).2
      rw [e]
      refine (ih (Nat.lt_of_succ_lt hn)).trans ?_
      rw [show (n + 1) / 11 = n / 11 by omega]

/-- A point adds its tile's shares to what it finds. -/
theorem add_tile (t : Fin cfg0.N) (h : Vec Ideal S512x2048 .bf16) (acc : Vec Ideal S512x2048 .f32) (r : Fin 512) (q : Fin 2048)
    (hh : ∀ k : Fin 2048, (h (ix2 r k) : EReal) = hrow (arg0 m c) (arg1 m c) (row (t.val / 11) r) k)
    (ha : (acc (ix2 r q) : EReal) = accAt (arg0 m c) (arg1 m c) (arg2 m c) (arg3 m c) (arg4 m c) (t.val % 11 * 512) (row (t.val / 11) r) q) :
    (k0_pay2 (F := Ideal) h (iblk m c 2 t) (iblk m c 3 t) acc (iblk m c 4 t) (ix2 r q) : EReal)
      = accAt (arg0 m c) (arg1 m c) (arg2 m c) (arg3 m c) (arg4 m c) (t.val % 11 * 512 + 512) (row (t.val / 11) r) q := by
  refine (pay2_apply _ _ _ _ _ r q).trans ?_
  rw [accAt_block, ha]
  simp only [hh, blk2, blk3, blk4]
  rfl

/-- The output block while a row block is walked: the residual plus the shares of the tiles so far. -/
theorem acc (n : ℕ) (hn : n < cfg0.N) (r : Fin 512) (q : Fin 2048) : ((outsAt0 m c n hn).1 (ix2 r q) : EReal)
      = accAt (arg0 m c) (arg1 m c) (arg2 m c) (arg3 m c) (arg4 m c) (n % 11 * 512 + 512) (row (n / 11) r) q := by
  have first : ∀ t : Fin cfg0.N, t.val % 11 = 0 → ((outsAt0 m c t.val t.isLt).1 (ix2 r q) : EReal)
      = accAt (arg0 m c) (arg1 m c) (arg2 m c) (arg3 m c) (arg4 m c) (t.val % 11 * 512 + 512) (row (t.val / 11) r) q := fun t h0 => by
    rw [(outs_first m c t h0).1]
    refine add_tile m c t _ _ r q (fun k => ?_) ?_
    · refine (pay1_apply _ _ r k).trans ?_
      simp only [blk0, blk1]
      rfl
    · rw [h0, blk0]
      unfold accAt
      simp
  induction n with
  | zero => exact first ⟨0, hn⟩ rfl
  | succ n ih =>
    by_cases h0 : (n + 1) % 11 = 0
    · exact first ⟨n + 1, hn⟩ h0
    · have e : (outsAt0 m c (n + 1) hn).1 = k0_pay2 (outsAt0 m c n (Nat.lt_of_succ_lt hn)).2.2 (iblk m c 2 ⟨n + 1, hn⟩)
          (iblk m c 3 ⟨n + 1, hn⟩) (outsAt0 m c n (Nat.lt_of_succ_lt hn)).1 (iblk m c 4 ⟨n + 1, hn⟩) := by
        by_cases h1 : (n + 1) % 11 = 10
        · exact (outs_last m c ⟨n + 1, hn⟩ h0 h1).1
        · exact (outs_mid m c ⟨n + 1, hn⟩ h0 h1).1
      rw [e]
      refine add_tile m c ⟨n + 1, hn⟩ _ _ r q (fun k => ?_) ?_
      · refine (scratch m c n _ r k).trans ?_
        show hrow _ _ (row (n / 11) r) k = hrow _ _ (row ((n + 1) / 11) r) k
        rw [show (n + 1) / 11 = n / 11 by omega]
      · refine (ih (Nat.lt_of_succ_lt hn)).trans ?_
        show accAt _ _ _ _ _ (n % 11 * 512 + 512) (row (n / 11) r) q = accAt _ _ _ _ _ ((n + 1) % 11 * 512) (row ((n + 1) / 11) r) q
        rw [show (n + 1) / 11 = n / 11 by omega, show (n + 1) % 11 * 512 = n % 11 * 512 + 512 by omega]

/-- The normalised sum. -/
def normAt (x : S16384x2048.Idx → EReal) (nin : S1x2048.Idx → EReal) (wg wu : S2048x5632.Idx → EReal) (wd : S5632x2048.Idx → EReal)
    (nout : S1x2048.Idx → EReal) (a : Fin 16384) (b : Fin 2048) : EReal :=
  Facts.rms 0x45000000#32 (fun j => sumAt x nin wg wu wd a j) (fun j => nout (ix2 (0 : Fin 1) j)) b

/-- The normalised sum, as the last tile of a row block writes it. -/
theorem last (n : ℕ) (hn : n < cfg0.N) (h1 : n % 11 = 10) (r : Fin 512) (q : Fin 2048) :
    ((outsAt0 m c n hn).2.1 (ix2 r q) : EReal) = normAt (arg0 m c) (arg1 m c) (arg2 m c) (arg3 m c) (arg4 m c) (arg5 m c) (row (n / 11) r) q := by
  have e := (outs_last m c ⟨n, hn⟩ (by dsimp only; omega) h1).2.2
  dsimp only at e
  rw [e]
  refine (pay3_apply _ _ r q).trans ?_
  simp only [blk5]
  unfold normAt
  refine congrArg (fun F => Facts.rms 0x45000000#32 F _ q) (funext fun j => ?_)
  rw [← accAt_all]
  refine (add_tile m c ⟨n, hn⟩ _ _ r j (fun k => ?_) ?_).trans ?_
  · refine (scratch m c (n - 1) _ r k).trans ?_
    rw [show (n - 1) / 11 = n / 11 by omega]
  · refine (acc m c (n - 1) _ r j).trans ?_
    show accAt _ _ _ _ _ _ _ j = accAt _ _ _ _ _ (n % 11 * 512) (row (n / 11) r) j
    rw [show (n - 1) / 11 = n / 11 by omega, show (n - 1) % 11 * 512 + 512 = n % 11 * 512 by omega]
  · show accAt _ _ _ _ _ (n % 11 * 512 + 512) _ j = _
    rw [h1]

/-- The first result is the sum. -/
theorem G6_eq : Value.G6 m c = (fun i => sumAt (arg0 m c) (arg1 m c) (arg2 m c) (arg3 m c) (arg4 m c) (i 0) (i 1) : S16384x2048.Idx → EReal) := by
  funext i
  obtain ⟨a, b, rfl⟩ : ∃ (a : Fin 16384) (b : Fin 2048), i = ix2 a b := ⟨i 0, i 1, Shape.idx_ext₂ rfl rfl⟩
  have hp : Value.pt6Of (ix2 a b) = 11 * (a.val / 512) + 10 := by
    show 11 * (1 * (a.val / 512 - 0) + 1 * (b.val / 2048 - 0)) + 10 = _
    omega
  have hN : Value.pt6Of (ix2 a b) < cfg0.N := by rw [hp]; exact lt_of_lt_of_eq (by omega) N_0.symm
  have hl : Value.loc6Of (ix2 a b) = ix2 ⟨a.val % 512, by omega⟩ b :=
    Shape.idx_ext₂ rfl (by show b.val % 2048 = b.val; omega)
  have hr : row (Value.pt6Of (ix2 a b) / 11) ⟨a.val % 512, by omega⟩ = a := Fin.ext (by
    show (Value.pt6Of (ix2 a b) / 11 * 512 + a.val % 512) % 16384 = a.val
    omega)
  unfold Value.G6
  rw [dif_pos hN, ← Value.outsAt0_sweep m c _ hN, hl]
  refine (acc m c _ hN _ b).trans ?_
  rw [hr, show Value.pt6Of (ix2 a b) % 11 * 512 + 512 = 5632 by omega, accAt_all]
  rfl

/-- The second result is the normalised sum. -/
theorem G7_eq : Value.G7 m c = (fun i => normAt (arg0 m c) (arg1 m c) (arg2 m c) (arg3 m c) (arg4 m c) (arg5 m c) (i 0) (i 1) : S16384x2048.Idx → EReal) := by
  funext i
  obtain ⟨a, b, rfl⟩ : ∃ (a : Fin 16384) (b : Fin 2048), i = ix2 a b := ⟨i 0, i 1, Shape.idx_ext₂ rfl rfl⟩
  have hp : Value.pt7Of (ix2 a b) = 11 * (a.val / 512) + 10 := by
    show 11 * (1 * (a.val / 512 - 0) + 1 * (b.val / 2048 - 0)) + 10 = _
    omega
  have hN : Value.pt7Of (ix2 a b) < cfg0.N := by rw [hp]; exact lt_of_lt_of_eq (by omega) N_0.symm
  have hl : Value.loc7Of (ix2 a b) = ix2 ⟨a.val % 512, by omega⟩ b :=
    Shape.idx_ext₂ rfl (by show b.val % 2048 = b.val; omega)
  have hr : row (Value.pt7Of (ix2 a b) / 11) ⟨a.val % 512, by omega⟩ = a := Fin.ext (by
    show (Value.pt7Of (ix2 a b) / 11 * 512 + a.val % 512) % 16384 = a.val
    omega)
  unfold Value.G7
  rw [dif_pos hN, ← Value.outsAt0_sweep m c _ hN, hl]
  refine (last m c _ hN (by omega) _ b).trans ?_
  rw [hr]
  rfl

/-- The tiled block and the reference's leave the same two arrays, over the extended reals. -/
theorem algebraic : Cert.algebraic_Kernel2Ideal_Reference2Ideal := fun m ρ m' ρ' _ hag =>
  ⟨fun c => Value.G6 m c, fun c => Value.G7 m c, Value.run m ρ, (θ_run _ _ _).mono (fun _ h c => ⟨(h c).1.trans (by
    obtain ⟨h0, h1, h2, h3, h4, h5⟩ := hag c
    rw [h0, h1, h2, h3, h4]
    refine Eq.trans ?_ (G6_eq m c).symm
    funext i
    idx_vars i
    unfold sumAt hrow Facts.rms Facts.sig
    pointwise), (h c).2.1.trans (by
    obtain ⟨h0, h1, h2, h3, h4, h5⟩ := hag c
    unfold Cert.Reference2Ideal.Value.res_main_v32
    rw [h0, h1, h2, h3, h4, h5]
    refine Eq.trans ?_ (G7_eq m c).symm
    funext i
    idx_vars i
    unfold normAt sumAt hrow Facts.rms Facts.sig
    pointwise), (h c).2.2⟩) (Cert.Reference2Ideal.Value.run m' ρ')⟩

end Cert.Proof.FfnFirst
-- ==== Proof.FfnLast.lean ====
/-
  The second feed-forward block (`Kernel3Ideal`). The kernel walks the hidden axis in eleven tiles and adds each tile's
  share onto the residual row in the output block, the normalised row kept in a scratch; the last tile normalises the
  sum. Read at the extended reals, that is what the reference `Reference3Ideal` leaves.
-/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import proofs.«01_k».proof.Proof.Facts

@[expose] public section

set_option maxRecDepth 16384

noncomputable section

open Idealize.ShloMosaic Idealize.ShloMosaic.TcCoe Idealize.SL.Sem
open Idealize.ShloMosaic.Pipeline (Dat)

namespace Cert.Proof.FfnLast

open Cert.Kernel3Ideal Cert.Kernel3Ideal.Gen

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- Argument 0, as numbers. -/
abbrev arg0 : S16384x2048.Idx → EReal := m ((c : Thread nD τ).loc main_arg0)

/-- Argument 1, as numbers. -/
abbrev arg1 : S1x2048.Idx → EReal := m ((c : Thread nD τ).loc main_arg1)

/-- Argument 2, as numbers. -/
abbrev arg2 : S2048x5632.Idx → EReal := m ((c : Thread nD τ).loc main_arg2)

/-- Argument 3, as numbers. -/
abbrev arg3 : S2048x5632.Idx → EReal := m ((c : Thread nD τ).loc main_arg3)

/-- Argument 4, as numbers. -/
abbrev arg4 : S5632x2048.Idx → EReal := m ((c : Thread nD τ).loc main_arg4)

/-- Argument 5, as numbers. -/
abbrev arg5 : S1x2048.Idx → EReal := m ((c : Thread nD τ).loc main_arg5)

/-- At the first tile of a row block the output block is the residual rows plus the first share. -/
theorem out0_A_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (hc0 : cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) :
    out0_A_6 (F := Ideal) c i arg2 harg2 arg3 harg3 arg4 harg4 arg5 harg5 arg6 harg6 arg7 harg7 arg8 harg8 arg9 harg9 hc0 hc1 x0 x1 x2 x3 x4 x5 = k0_pay2 (k0_pay1 x0 x1) x2 x3 x0 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg8.read_unread, harg9.read_unread, View.ld_unit_zero (S := S512x2048) hz, View.ld_unit_zero (S := S1x2048) hz, View.ld_unit_zero (S := S2048x512) hz]

/-- At the first tile the scratch ends at the normalised rows. -/
theorem sout0_A_0_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (hc0 : cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) :
    sout0_A_0 (F := Ideal) c i arg2 harg2 arg3 harg3 arg4 harg4 arg5 harg5 arg6 harg6 arg7 harg7 arg8 harg8 arg9 harg9 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S1x2048) hz, View.ld_unit_zero (S := S2048x512) hz]

/-- At a tile in between one more share is added. -/
theorem out0_B_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (hc0 : ¬cond0_0 i) (hc1 : ¬cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S512x2048 .f32) (xs0 : Vec Ideal S512x2048 .bf16) :
    out0_B_6 (F := Ideal) c i arg2 harg2 arg3 harg3 arg4 harg4 arg5 harg5 arg6 harg6 arg7 harg7 arg8 harg8 arg9 harg9 hc0 hc1 x0 x1 x2 x3 x4 x5 xo6 xs0 = k0_pay2 xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S1x2048) hz, View.ld_unit_zero (S := S2048x512) hz]

/-- At the last tile one more share is added and the sum is normalised. -/
theorem out0_C_6_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (hc0 : ¬cond0_0 i) (hc1 : cond0_1 i)
    (x0 : Vec Ideal S512x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S512x2048 .f32) (xs0 : Vec Ideal S512x2048 .bf16) :
    out0_C_6 (F := Ideal) c i arg2 harg2 arg3 harg3 arg4 harg4 arg5 harg5 arg6 harg6 arg7 harg7 arg8 harg8 arg9 harg9 hc0 hc1 x0 x1 x2 x3 x4 x5 xo6 xs0 = k0_pay3 (k0_pay2 xs0 x2 x3 xo6 x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0)]
  unfold kernelRun0_C
  dsimp only
  sl_unfold_words
  rw [View.canon_cons_unit_zero (S := S512x2048) hz]
  simp only [View.readCov_unit_zero (S := S512x2048) _ hz, View.readAt_eq_ld, harg2.read_unread, harg3.read_unread, harg4.read_unread, harg5.read_unread, harg6.read_unread, harg7.read_unread, harg8.read_unread, harg9.read_unread, View.ld_unit_zero (S := S512x2048) hz, View.ld_unit_zero (S := S1x2048) hz, View.ld_unit_zero (S := S2048x512) hz]

/-- The first tile of a row block. -/
theorem outs_first (t : Fin cfg0.N) (h0 : t.val % 11 = 0) :
    (outsAt0 m c t.val t.isLt).1 = k0_pay2 (k0_pay1 (iblk m c 0 t) (iblk m c 1 t)) (iblk m c 2 t) (iblk m c 3 t) (iblk m c 0 t) (iblk m c 4 t)
      ∧ (outsAt0 m c t.val t.isLt).2 = k0_pay1 (iblk m c 0 t) (iblk m c 1 t) := by
  rw [outsAt0_A m c t h0 (by omega), out0_A_6_eq, sout0_A_0_eq]
  exact ⟨rfl, rfl⟩

/-- A tile in between. -/
theorem outs_mid (t : Fin cfg0.N) (h0 : ¬t.val % 11 = 0) (h1 : ¬t.val % 11 = 10) :
    (outsAt0 m c t.val t.isLt).1 = k0_pay2 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t)
      ∧ (outsAt0 m c t.val t.isLt).2 = (outsAt0 m c (t.val - 1) (Nat.lt_of_le_of_lt (Nat.sub_le _ _) t.isLt)).2 := by
  rw [outsAt0_B m c t h0 h1, out0_B_6_eq]
  exact ⟨rfl, rfl⟩

/-- The last tile of a row block. -/
theorem outs_last (t : Fin cfg0.N) (h0 : ¬t.val % 11 = 0) (h1 : t.val % 11 = 10) :
    (outsAt0 m c t.val t.isLt).1 = k0_pay3 (k0_pay2 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t)) (iblk m c 5 t)
      ∧ (outsAt0 m c t.val t.isLt).2 = (outsAt0 m c (t.val - 1) (Nat.lt_of_le_of_lt (Nat.sub_le _ _) t.isLt)).2 := by
  rw [outsAt0_C m c t h0 h1, out0_C_6_eq]
  exact ⟨rfl, rfl⟩

/-- The index maps, decided over the grid: point `t` is hidden tile `t % 11` of row block `t / 11`. -/
theorem idx_facts : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] :=
  (by decide +kernel : ∀ t : Fin grid0.N, _)

theorem lt_N (t : Fin cfg0.N) : t.val < 352 := lt_of_lt_of_eq t.isLt N_0

/-- Row `r` of row block `j`, as a row of the array. -/
def row (j : ℕ) (r : Fin 512) : Fin 16384 := ⟨(j * 512 + r.val) % 16384, Nat.mod_lt _ (by decide)⟩

/-- Position `n` of the hidden axis. -/
def hid (n : ℕ) : Fin 5632 := ⟨n % 5632, Nat.mod_lt _ (by decide)⟩

theorem blk0 (t : Fin cfg0.N) (r : Fin 512) (k : Fin 2048) :
    (iblk m c 0 t (ix2 r k) : EReal) = arg0 m c (ix2 (row (t.val / 11) r) k) := by
  have hN := lt_N t
  obtain ⟨h, -⟩ := idx_facts t
  show arg0 m c (((cfg0.win 0).blk t).view.emb (ix2 r k)) = _
  refine congrArg _ (Shape.idx_ext₂ ?_ ?_)
  · show win0_0.index t (0 : Fin 2) * 512 + 1 * r.val = (t.val / 11 * 512 + r.val) % 16384; rw [h]; simp; omega
  · show win0_0.index t (1 : Fin 2) * 2048 + 1 * k.val = k.val; rw [h]; simp

theorem blk2 (t : Fin cfg0.N) (r : Fin 2048) (k : Fin 512) :
    (iblk m c 2 t (ix2 r k) : EReal) = arg2 m c (ix2 r (hid (t.val % 11 * 512 + k.val))) := by
  have hN := lt_N t
  obtain ⟨-, -, h, -⟩ := idx_facts t
  show arg2 m c (((cfg0.win 2).blk t).view.emb (ix2 r k)) = _
  refine congrArg _ (Shape.idx_ext₂ ?_ ?_)
  · show win0_2.index t (0 : Fin 2) * 2048 + 1 * r.val = r.val; rw [h]; simp
  · show win0_2.index t (1 : Fin 2) * 512 + 1 * k.val = (t.val % 11 * 512 + k.val) % 5632; rw [h]; simp; omega

theorem blk3 (t : Fin cfg0.N) (r : Fin 2048) (k : Fin 512) :
    (iblk m c 3 t (ix2 r k) : EReal) = arg3 m c (ix2 r (hid (t.val % 11 * 512 + k.val))) := by
  have hN := lt_N t
  obtain ⟨-, -, -, h, -⟩ := idx_facts t
  show arg3 m c (((cfg0.win 3).blk t).view.emb (ix2 r k)) = _
  refine congrArg _ (Shape.idx_ext₂ ?_ ?_)
  · show win0_3.index t (0 : Fin 2) * 2048 + 1 * r.val = r.val; rw [h]; simp
  · show win0_3.index t (1 : Fin 2) * 512 + 1 * k.val = (t.val % 11 * 512 + k.val) % 5632; rw [h]; simp; omega

theorem blk4 (t : Fin cfg0.N) (r : Fin 512) (k : Fin 2048) :
    (iblk m c 4 t (ix2 r k) : EReal) = arg4 m c (ix2 (hid (t.val % 11 * 512 + r.val)) k) := by
  have hN := lt_N t
  obtain ⟨-, -, -, -, h, -⟩ := idx_facts t
  show arg4 m c (((cfg0.win 4).blk t).view.emb (ix2 r k)) = _
  refine congrArg _ (Shape.idx_ext₂ ?_ ?_)
  · show win0_4.index t (0 : Fin 2) * 512 + 1 * r.val = (t.val % 11 * 512 + r.val) % 5632; rw [h]; simp; omega
  · show win0_4.index t (1 : Fin 2) * 2048 + 1 * k.val = k.val; rw [h]; simp

theorem blk1 (t : Fin cfg0.N) (k : Fin 2048) :
    (iblk m c 1 t (ix2 (0 : Fin 1) k) : EReal) = arg1 m c (ix2 (0 : Fin 1) k) := by
  have hN := lt_N t
  obtain ⟨-, h, -⟩ := idx_facts t
  show arg1 m c (((cfg0.win 1).blk t).view.emb (ix2 (0 : Fin 1) k)) = _
  refine congrArg _ (Shape.idx_ext₂ ?_ ?_)
  · show win0_1.index t (0 : Fin 2) * 1 + 1 * 0 = 0; rw [h]; simp
  · show win0_1.index t (1 : Fin 2) * 2048 + 1 * k.val = k.val; rw [h]; simp

theorem blk5 (t : Fin cfg0.N) (k : Fin 2048) :
    (iblk m c 5 t (ix2 (0 : Fin 1) k) : EReal) = arg5 m c (ix2 (0 : Fin 1) k) := by
  have hN := lt_N t
  obtain ⟨-, -, -, -, -, h⟩ := idx_facts t
  show arg5 m c (((cfg0.win 5).blk t).view.emb (ix2 (0 : Fin 1) k)) = _
  refine congrArg _ (Shape.idx_ext₂ ?_ ?_)
  · show win0_5.index t (0 : Fin 2) * 1 + 1 * 0 = 0; rw [h]; simp
  · show win0_5.index t (1 : Fin 2) * 2048 + 1 * k.val = k.val; rw [h]; simp

/-- The normalised rows, at an index. -/
theorem pay1_apply (x : Vec Ideal S512x2048 .f32) (g : Vec Ideal S1x2048 .f32) (r : Fin 512) (k : Fin 2048) :
    (k0_pay1 (F := Ideal) x g (ix2 r k) : EReal) = Facts.rms 0x45000000#32 (fun j => (x (ix2 r j) : EReal)) (fun j => g (ix2 (0 : Fin 1) j)) k := by
  unfold Facts.rms
  unfold_payloads
  pointwise

/-- The rows normalised at the end, at an index. -/
theorem pay3_apply (x : Vec Ideal S512x2048 .f32) (g : Vec Ideal S1x2048 .f32) (r : Fin 512) (k : Fin 2048) :
    (k0_pay3 (F := Ideal) x g (ix2 r k) : EReal) = Facts.rms 0x45000000#32 (fun j => (x (ix2 r j) : EReal)) (fun j => g (ix2 (0 : Fin 1) j)) k := by
  unfold Facts.rms
  unfold_payloads
  pointwise

/-- One share, at an index. -/
theorem pay2_apply (h : Vec Ideal S512x2048 .bf16) (wg wu : Vec Ideal S2048x512 .bf16) (acc : Vec Ideal S512x2048 .f32)
    (wd : Vec Ideal S512x2048 .bf16) (r : Fin 512) (q : Fin 2048) :
    (k0_pay2 (F := Ideal) h wg wu acc wd (ix2 r q) : EReal) = (acc (ix2 r q) : EReal) + ∑ f : Fin 512,
      Facts.act (∑ k : Fin 2048, (h (ix2 r k) : EReal) * wg (ix2 k f)) (∑ k : Fin 2048, (h (ix2 r k) : EReal) * wu (ix2 k f))
        * wd (ix2 f q) := by
  unfold Facts.act
  unfold_payloads
  pointwise

/-- The normalised row `a`, at column `k`. -/
def hrow (x : S16384x2048.Idx → EReal) (nin : S1x2048.Idx → EReal) (a : Fin 16384) (k : Fin 2048) : EReal :=
  Facts.rms 0x45000000#32 (fun j => x (ix2 a j)) (fun j => nin (ix2 (0 : Fin 1) j)) k

/-- The share of hidden position `f` in the sum at row `a` and column `b`. -/
def share (x : S16384x2048.Idx → EReal) (nin : S1x2048.Idx → EReal) (wg wu : S2048x5632.Idx → EReal) (wd : S5632x2048.Idx → EReal)
    (a : Fin 16384) (b : Fin 2048) (f : Fin 5632) : EReal :=
  Facts.act (∑ k : Fin 2048, hrow x nin a k * wg (ix2 k f)) (∑ k : Fin 2048, hrow x nin a k * wu (ix2 k f)) * wd (ix2 f b)

/-- The residual plus the shares of the first `n` hidden positions. -/
def accAt (x : S16384x2048.Idx → EReal) (nin : S1x2048.Idx → EReal) (wg wu : S2048x5632.Idx → EReal) (wd : S5632x2048.Idx → EReal)
    (n : ℕ) (a : Fin 16384) (b : Fin 2048) : EReal :=
  x (ix2 a b) + ∑ j ∈ Finset.range n, share x nin wg wu wd a b (hid j)

/-- The block's sum as the reference writes it: the residual plus half the gated unit's projection. -/
def sumAt (x : S16384x2048.Idx → EReal) (nin : S1x2048.Idx → EReal) (wg wu : S2048x5632.Idx → EReal) (wd : S5632x2048.Idx → EReal)
    (a : Fin 16384) (b : Fin 2048) : EReal :=
  x (ix2 a b) + Ideal.ofBits .f32 0x3F000000#32 * ∑ f : Fin 5632,
    ((∑ k : Fin 2048, hrow x nin a k * wg (ix2 k f)) * Facts.sig (∑ k : Fin 2048, hrow x nin a k * wg (ix2 k f))
      * (∑ k : Fin 2048, hrow x nin a k * wu (ix2 k f))) * wd (ix2 f b)

/-- All shares together are the reference's sum. -/
theorem accAt_all (x : S16384x2048.Idx → EReal) (nin : S1x2048.Idx → EReal) (wg wu : S2048x5632.Idx → EReal) (wd : S5632x2048.Idx → EReal) (a : Fin 16384) (b : Fin 2048) :
    accAt x nin wg wu wd 5632 a b = sumAt x nin wg wu wd a b := by
  unfold accAt sumAt
  rw [Facts.half, Facts.coe_mul_sum _ _ _ (by norm_num), Finset.sum_range]
  refine congrArg (x (ix2 a b) + ·) (Finset.sum_congr rfl fun f _ => ?_)
  have hf : hid f.val = f := Fin.ext (Nat.mod_eq_of_lt f.isLt)
  rw [hf]
  unfold share
  rw [Facts.act_eq, Facts.half, mul_assoc]

/-- Tile `j` adds its 512 shares. -/
theorem accAt_block (x : S16384x2048.Idx → EReal) (nin : S1x2048.Idx → EReal) (wg wu : S2048x5632.Idx → EReal) (wd : S5632x2048.Idx → EReal) (j : ℕ) (a : Fin 16384) (b : Fin 2048) :
    accAt x nin wg wu wd (j * 512 + 512) a b
      = accAt x nin wg wu wd (j * 512) a b + ∑ f : Fin 512, share x nin wg wu wd a b (hid (j * 512 + f.val)) := by
  unfold accAt
  rw [Facts.sum_range_block, add_assoc]

/-- The scratch at every point of a row block: the block's normalised rows. -/
theorem scratch (n : ℕ) (hn : n < cfg0.N) (r : Fin 512) (k : Fin 2048) :
    ((outsAt0 m c n hn).2 (ix2 r k) : EReal) = hrow (arg0 m c) (arg1 m c) (row (n / 11) r) k := by
  have first : ∀ t : Fin cfg0.N, (k0_pay1 (F := Ideal) (iblk m c 0 t) (iblk m c 1 t) (ix2 r k) : EReal)
      = hrow (arg0 m c) (arg1 m c) (row (t.val / 11) r) k := fun t => by
    refine (pay1_apply _ _ r k).trans ?_
    simp only [blk0, blk1]
    rfl
  induction n with
  | zero =>
    have e := (outs_first m c ⟨0, hn⟩ (by rfl)).2
    dsimp only at e
    rw [e]
    exact first ⟨0, hn⟩
  | succ n ih =>
    by_cases h0 : (n + 1) % 11 = 0
    · have e := (outs_first m c ⟨n + 1, hn⟩ h0).2
      dsimp only at e
      rw [e]
      exact first ⟨n + 1, hn⟩
    · have e : (outsAt0 m c (n + 1) hn).2 = (outsAt0 m c n (Nat.lt_of_succ_lt hn)).2 := by
        by_cases h1 : (n + 1) % 11 = 10
        · exact (outs_last m c ⟨n + 1, hn⟩ h0 h1).2
        · exact (outs_mid m c ⟨n + 1, hn⟩ h0 h1).2
      rw [e]
      refine (ih (Nat.lt_of_succ_lt hn)).trans ?_
      rw [show (n + 1) / 11 = n / 11 by omega]

/-- A point adds its tile's shares to what it finds. -/
theorem add_tile (t : Fin cfg0.N) (h : Vec Ideal S512x2048 .bf16) (acc : Vec Ideal S512x2048 .f32) (r : Fin 512) (q : Fin 2048)
    (hh : ∀ k : Fin 2048, (h (ix2 r k) : EReal) = hrow (arg0 m c) (arg1 m c) (row (t.val / 11) r) k)
    (ha : (acc (ix2 r q) : EReal) = accAt (arg0 m c) (arg1 m c) (arg2 m c) (arg3 m c) (arg4 m c) (t.val % 11 * 512) (row (t.val / 11) r) q) :
    (k0_pay2 (F := Ideal) h (iblk m c 2 t) (iblk m c 3 t) acc (iblk m c 4 t) (ix2 r q) : EReal)
      = accAt (arg0 m c) (arg1 m c) (arg2 m c) (arg3 m c) (arg4 m c) (t.val % 11 * 512 + 512) (row (t.val / 11) r) q := by
  refine (pay2_apply _ _ _ _ _ r q).trans ?_
  rw [accAt_block, ha]
  simp only [hh, blk2, blk3, blk4]
  rfl

/-- The output block while a row block is walked: the residual plus the shares of the tiles so far. -/
theorem acc (n : ℕ) (hn : n < cfg0.N) (h1 : ¬n % 11 = 10) (r : Fin 512) (q : Fin 2048) : ((outsAt0 m c n hn).1 (ix2 r q) : EReal)
      = accAt (arg0 m c) (arg1 m c) (arg2 m c) (arg3 m c) (arg4 m c) (n % 11 * 512 + 512) (row (n / 11) r) q := by
  have first : ∀ t : Fin cfg0.N, t.val % 11 = 0 → ((outsAt0 m c t.val t.isLt).1 (ix2 r q) : EReal)
      = accAt (arg0 m c) (arg1 m c) (arg2 m c) (arg3 m c) (arg4 m c) (t.val % 11 * 512 + 512) (row (t.val / 11) r) q := fun t h0 => by
    rw [(outs_first m c t h0).1]
    refine add_tile m c t _ _ r q (fun k => ?_) ?_
    · refine (pay1_apply _ _ r k).trans ?_
      simp only [blk0, blk1]
      rfl
    · rw [h0, blk0]
      unfold accAt
      simp
  induction n with
  | zero => exact first ⟨0, hn⟩ rfl
  | succ n ih =>
    by_cases h0 : (n + 1) % 11 = 0
    · exact first ⟨n + 1, hn⟩ h0
    · have e : (outsAt0 m c (n + 1) hn).1 = k0_pay2 (outsAt0 m c n (Nat.lt_of_succ_lt hn)).2 (iblk m c 2 ⟨n + 1, hn⟩)
          (iblk m c 3 ⟨n + 1, hn⟩) (outsAt0 m c n (Nat.lt_of_succ_lt hn)).1 (iblk m c 4 ⟨n + 1, hn⟩) := (outs_mid m c ⟨n + 1, hn⟩ h0 h1).1
      rw [e]
      refine add_tile m c ⟨n + 1, hn⟩ _ _ r q (fun k => ?_) ?_
      · refine (scratch m c n _ r k).trans ?_
        show hrow _ _ (row (n / 11) r) k = hrow _ _ (row ((n + 1) / 11) r) k
        rw [show (n + 1) / 11 = n / 11 by omega]
      · refine (ih (Nat.lt_of_succ_lt hn) (by omega)).trans ?_
        show accAt _ _ _ _ _ (n % 11 * 512 + 512) (row (n / 11) r) q = accAt _ _ _ _ _ ((n + 1) % 11 * 512) (row ((n + 1) / 11) r) q
        rw [show (n + 1) / 11 = n / 11 by omega, show (n + 1) % 11 * 512 = n % 11 * 512 + 512 by omega]

/-- The normalised sum. -/
def normAt (x : S16384x2048.Idx → EReal) (nin : S1x2048.Idx → EReal) (wg wu : S2048x5632.Idx → EReal) (wd : S5632x2048.Idx → EReal)
    (nout : S1x2048.Idx → EReal) (a : Fin 16384) (b : Fin 2048) : EReal :=
  Facts.rms 0x45000000#32 (fun j => sumAt x nin wg wu wd a j) (fun j => nout (ix2 (0 : Fin 1) j)) b

/-- The normalised sum, as the last tile of a row block writes it. -/
theorem last (n : ℕ) (hn : n < cfg0.N) (h1 : n % 11 = 10) (r : Fin 512) (q : Fin 2048) :
    ((outsAt0 m c n hn).1 (ix2 r q) : EReal) = normAt (arg0 m c) (arg1 m c) (arg2 m c) (arg3 m c) (arg4 m c) (arg5 m c) (row (n / 11) r) q := by
  have e := (outs_last m c ⟨n, hn⟩ (by dsimp only; omega) h1).1
  dsimp only at e
  rw [e]
  refine (pay3_apply _ _ r q).trans ?_
  simp only [blk5]
  unfold normAt
  refine congrArg (fun F => Facts.rms 0x45000000#32 F _ q) (funext fun j => ?_)
  rw [← accAt_all]
  refine (add_tile m c ⟨n, hn⟩ _ _ r j (fun k => ?_) ?_).trans ?_
  · refine (scratch m c (n - 1) _ r k).trans ?_
    rw [show (n - 1) / 11 = n / 11 by omega]
  · refine (acc m c (n - 1) _ (by omega) r j).trans ?_
    show accAt _ _ _ _ _ _ _ j = accAt _ _ _ _ _ (n % 11 * 512) (row (n / 11) r) j
    rw [show (n - 1) / 11 = n / 11 by omega, show (n - 1) % 11 * 512 + 512 = n % 11 * 512 by omega]
  · show accAt _ _ _ _ _ (n % 11 * 512 + 512) _ j = _
    rw [h1]

/-- The result is the normalised sum. -/
theorem G6_eq : Value.G6 m c = (fun i => normAt (arg0 m c) (arg1 m c) (arg2 m c) (arg3 m c) (arg4 m c) (arg5 m c) (i 0) (i 1) : S16384x2048.Idx → EReal) := by
  funext i
  obtain ⟨a, b, rfl⟩ : ∃ (a : Fin 16384) (b : Fin 2048), i = ix2 a b := ⟨i 0, i 1, Shape.idx_ext₂ rfl rfl⟩
  have hp : Value.pt6Of (ix2 a b) = 11 * (a.val / 512) + 10 := by
    show 11 * (1 * (a.val / 512 - 0) + 1 * (b.val / 2048 - 0)) + 10 = _
    omega
  have hN : Value.pt6Of (ix2 a b) < cfg0.N := by rw [hp]; exact lt_of_lt_of_eq (by omega) N_0.symm
  have hl : Value.loc6Of (ix2 a b) = ix2 ⟨a.val % 512, by omega⟩ b :=
    Shape.idx_ext₂ rfl (by show b.val % 2048 = b.val; omega)
  have hr : row (Value.pt6Of (ix2 a b) / 11) ⟨a.val % 512, by omega⟩ = a := Fin.ext (by
    show (Value.pt6Of (ix2 a b) / 11 * 512 + a.val % 512) % 16384 = a.val
    omega)
  unfold Value.G6
  rw [dif_pos hN, ← Value.outsAt0_sweep m c _ hN, hl]
  refine (last m c _ hN (by omega) _ b).trans ?_
  rw [hr]
  rfl

/-- The tiled block and the reference's leave the same array, over the extended reals. -/
theorem algebraic : Cert.algebraic_Kernel3Ideal_Reference3Ideal := fun m ρ m' ρ' _ hag =>
  ⟨fun c => Value.G6 m c, Value.run m ρ, (θ_run _ _ _).mono (fun _ h c => ⟨(h c).1.trans (by
    obtain ⟨h0, h1, h2, h3, h4, h5⟩ := hag c
    unfold Cert.Reference3Ideal.Value.res_main_v34
    rw [h0, h1, h2, h3, h4, h5]
    refine Eq.trans ?_ (G6_eq m c).symm
    funext i
    idx_vars i
    unfold normAt sumAt hrow Facts.rms Facts.sig
    pointwise), (h c).2⟩) (Cert.Reference3Ideal.Value.run m' ρ')⟩

end Cert.Proof.FfnLast
-- ==== Proof.InProjPlain.lean ====
/-
  The input projection's plain columns (`Kernel4Ideal`) and the weight cast beside it: the tiled kernel, whose weight
  tile is cast once per column tile into a scratch that the row tiles after it read, leaves the two arrays the
  reference `Reference4Ideal` leaves, over the extended reals.
-/
module

public import proofs.«01_k».proof.Defs
public import proofs.«01_k».proof.Proof.Gen.Kernel4Ideal.Value
public import proofs.«01_k».proof.Proof.Gen.Reference4Ideal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.InProjPlain

open Cert.Kernel4Ideal Cert.Kernel4Ideal.Gen

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- Argument 0, as numbers. -/
abbrev arg0 : S16384x2048.Idx → EReal := m ((c : Thread nD τ).loc main_arg0)

/-- Argument 1, as numbers. -/
abbrev arg1 : S2048x10240.Idx → EReal := m ((c : Thread nD τ).loc main_arg1)

/-- Argument 2, as numbers. -/
abbrev arg2 : S2048x5632.Idx → EReal := m ((c : Thread nD τ).loc main_arg2)

/-- At the head of a column tile the product reads the weight tile just cast. -/
theorem out0_A_3_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S32x5632 .f32) (harg4 : arg4.IsWhole) (arg5 : Memref sig .tc .vmem S1024x1024 .bf16) (harg5 : arg5.IsWhole) (arg6 : Memref sig .tc .vmem S32x5632 .bf16) (harg6 : arg6.IsWhole) (arg7 : Memref sig .tc .vmem S2048x1024 .bf16) (harg7 : arg7.IsWhole) (hc0 : cond0_0 i)
    (x0 : Vec Ideal S1024x2048 .bf16) (x1 : Vec Ideal S2048x1024 .f32) (x2 : Vec Ideal S32x5632 .f32) :
    out0_A_3 (F := Ideal) c i arg2 harg2 arg3 harg3 arg4 harg4 arg5 harg5 arg6 harg6 arg7 harg7 hc0 x0 x1 x2 = k0_pay3 x0 (k0_pay1 x1) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz, View.readCov_unit_zero (S := S2048x1024) _ hz]
  simp only [View.readAt_eq_ld, harg2.read_unread, harg3.read_unread, harg4.read_unread, harg5.read_unread, harg6.read_unread, harg7.read_unread, View.ld_unit_zero (S := S1024x2048) hz, View.ld_unit_zero (S := S2048x1024) hz, View.ld_unit_zero (S := S32x5632) hz]

/-- At the head of a column tile the side cast writes its slab. -/
theorem out0_A_4_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S32x5632 .f32) (harg4 : arg4.IsWhole) (arg5 : Memref sig .tc .vmem S1024x1024 .bf16) (harg5 : arg5.IsWhole) (arg6 : Memref sig .tc .vmem S32x5632 .bf16) (harg6 : arg6.IsWhole) (arg7 : Memref sig .tc .vmem S2048x1024 .bf16) (harg7 : arg7.IsWhole) (hc0 : cond0_0 i)
    (x0 : Vec Ideal S1024x2048 .bf16) (x1 : Vec Ideal S2048x1024 .f32) (x2 : Vec Ideal S32x5632 .f32) :
    out0_A_4 (F := Ideal) c i arg2 harg2 arg3 harg3 arg4 harg4 arg5 harg5 arg6 harg6 arg7 harg7 hc0 x0 x1 x2 = k0_pay2 x2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, View.ld_unit_zero (S := S1024x2048) hz, View.ld_unit_zero (S := S2048x1024) hz, View.ld_unit_zero (S := S32x5632) hz]

/-- At the head of a column tile the scratch ends at the weight tile, cast. -/
theorem sout0_A_0_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S32x5632 .f32) (harg4 : arg4.IsWhole) (arg5 : Memref sig .tc .vmem S1024x1024 .bf16) (harg5 : arg5.IsWhole) (arg6 : Memref sig .tc .vmem S32x5632 .bf16) (harg6 : arg6.IsWhole) (arg7 : Memref sig .tc .vmem S2048x1024 .bf16) (harg7 : arg7.IsWhole) (hc0 : cond0_0 i)
    (x0 : Vec Ideal S1024x2048 .bf16) (x1 : Vec Ideal S2048x1024 .f32) (x2 : Vec Ideal S32x5632 .f32) :
    sout0_A_0 (F := Ideal) c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, View.ld_unit_zero (S := S1024x2048) hz, View.ld_unit_zero (S := S2048x1024) hz, View.ld_unit_zero (S := S32x5632) hz]

/-- At a later point of a column tile the product reads the scratch as it was left. -/
theorem out0_B_3_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S32x5632 .f32) (harg4 : arg4.IsWhole) (arg5 : Memref sig .tc .vmem S1024x1024 .bf16) (harg5 : arg5.IsWhole) (arg6 : Memref sig .tc .vmem S32x5632 .bf16) (harg6 : arg6.IsWhole) (arg7 : Memref sig .tc .vmem S2048x1024 .bf16) (harg7 : arg7.IsWhole) (hc0 : ¬cond0_0 i)
    (x0 : Vec Ideal S1024x2048 .bf16) (x1 : Vec Ideal S2048x1024 .f32) (x2 : Vec Ideal S32x5632 .f32) (xs0 : Vec Ideal S2048x1024 .bf16) :
    out0_B_3 (F := Ideal) c i arg2 harg2 arg3 harg3 arg4 harg4 arg5 harg5 arg6 harg6 arg7 harg7 hc0 x0 x1 x2 xs0 = k0_pay3 x0 xs0 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, View.ld_unit_zero (S := S1024x2048) hz, View.ld_unit_zero (S := S2048x1024) hz, View.ld_unit_zero (S := S32x5632) hz]

/-- At a later point of a column tile the side cast writes its slab. -/
theorem out0_B_4_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S32x5632 .f32) (harg4 : arg4.IsWhole) (arg5 : Memref sig .tc .vmem S1024x1024 .bf16) (harg5 : arg5.IsWhole) (arg6 : Memref sig .tc .vmem S32x5632 .bf16) (harg6 : arg6.IsWhole) (arg7 : Memref sig .tc .vmem S2048x1024 .bf16) (harg7 : arg7.IsWhole) (hc0 : ¬cond0_0 i)
    (x0 : Vec Ideal S1024x2048 .bf16) (x1 : Vec Ideal S2048x1024 .f32) (x2 : Vec Ideal S32x5632 .f32) (xs0 : Vec Ideal S2048x1024 .bf16) :
    out0_B_4 (F := Ideal) c i arg2 harg2 arg3 harg3 arg4 harg4 arg5 harg5 arg6 harg6 arg7 harg7 hc0 x0 x1 x2 xs0 = k0_pay2 x2 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, View.ld_unit_zero (S := S1024x2048) hz, View.ld_unit_zero (S := S2048x1024) hz, View.ld_unit_zero (S := S32x5632) hz]

/-- A point at the head of a column tile: the cast weight tile goes to the scratch and is what the product reads. -/
theorem outs_head (t : Fin cfg0.N) (h0 : t.val % 16 = 0) : outsAt0 m c t.val t.isLt =
    (k0_pay3 (iblk m c 0 t) (k0_pay1 (iblk m c 1 t)), k0_pay2 (iblk m c 2 t), k0_pay1 (iblk m c 1 t)) := by
  rw [outsAt0_A m c t h0, out0_A_3_eq, out0_A_4_eq, sout0_A_0_eq]

/-- A later point of a column tile: the product reads the scratch as the point before left it. -/
theorem outs_tail (t : Fin cfg0.N) (h0 : ¬t.val % 16 = 0) : outsAt0 m c t.val t.isLt =
    (k0_pay3 (iblk m c 0 t) (outsAt0 m c (t.val - 1) (Nat.lt_of_le_of_lt (Nat.sub_le _ _) t.isLt)).2.2,
      k0_pay2 (iblk m c 2 t), (outsAt0 m c (t.val - 1) (Nat.lt_of_le_of_lt (Nat.sub_le _ _) t.isLt)).2.2) := by
  rw [outsAt0_B m c t h0, out0_B_3_eq, out0_B_4_eq]
  rfl

/-- The index maps, decided over the grid: point `t` is row tile `t % 16` of column tile `t / 16`; the four column tiles
    are blocks 0, 1, 2 and 5 of the weight; the side cast works slab by slab. -/
theorem idx_facts : ∀ t : Fin cfg0.N, win0_0.index t = ![t.val % 16, 0]
    ∧ win0_1.index t = ![0, if t.val / 16 < 3 then t.val / 16 else 5] ∧ win0_2.index t = ![t.val, 0] :=
  (by decide +kernel : ∀ t : Fin grid0.N, _)

theorem lt_N (t : Fin cfg0.N) : t.val < 64 := lt_of_lt_of_eq t.isLt N_0

/-- Row `r` of point `n`'s row tile, as a row of the array. -/
def row (n : ℕ) (r : Fin 1024) : Fin 16384 := ⟨n % 16 * 1024 + r.val, by omega⟩

/-- Column `q` of column tile `j`, as a column of the weight. -/
def wcol (j : ℕ) (q : Fin 1024) : Fin 10240 := ⟨(if j < 3 then j else 5) * 1024 + q.val, by split <;> omega⟩

/-- Row `r` of slab `t`, as a row of the side weight. -/
def slab (t : Fin cfg0.N) (r : Fin 32) : Fin 2048 := ⟨t.val * 32 + r.val, by have := lt_N t; omega⟩

theorem blk0 (t : Fin cfg0.N) (r : Fin 1024) (k : Fin 2048) :
    (iblk m c 0 t (ix2 r k) : EReal) = arg0 m c (ix2 (row t.val r) k) := by
  obtain ⟨h, -⟩ := idx_facts t
  show arg0 m c (((cfg0.win 0).blk t).view.emb (ix2 r k)) = _
  refine congrArg _ (Shape.idx_ext₂ ?_ ?_)
  · show win0_0.index t (0 : Fin 2) * 1024 + 1 * r.val = t.val % 16 * 1024 + r.val; rw [h]; simp
  · show win0_0.index t (1 : Fin 2) * 2048 + 1 * k.val = k.val; rw [h]; simp

theorem blk1 (t : Fin cfg0.N) (r : Fin 2048) (k : Fin 1024) :
    (iblk m c 1 t (ix2 r k) : EReal) = arg1 m c (ix2 r (wcol (t.val / 16) k)) := by
  obtain ⟨-, h, -⟩ := idx_facts t
  show arg1 m c (((cfg0.win 1).blk t).view.emb (ix2 r k)) = _
  refine congrArg _ (Shape.idx_ext₂ ?_ ?_)
  · show win0_1.index t (0 : Fin 2) * 2048 + 1 * r.val = r.val; rw [h]; simp
  · show win0_1.index t (1 : Fin 2) * 1024 + 1 * k.val = (if t.val / 16 < 3 then t.val / 16 else 5) * 1024 + k.val; rw [h]; simp

theorem blk2 (t : Fin cfg0.N) (r : Fin 32) (k : Fin 5632) :
    (iblk m c 2 t (ix2 r k) : EReal) = arg2 m c (ix2 (slab t r) k) := by
  obtain ⟨-, -, h⟩ := idx_facts t
  show arg2 m c (((cfg0.win 2).blk t).view.emb (ix2 r k)) = _
  refine congrArg _ (Shape.idx_ext₂ ?_ ?_)
  · show win0_2.index t (0 : Fin 2) * 32 + 1 * r.val = t.val * 32 + r.val; rw [h]; simp
  · show win0_2.index t (1 : Fin 2) * 5632 + 1 * k.val = k.val; rw [h]; simp

/-- The cast weight tile, at an index. -/
theorem pay1_apply (x : Vec Ideal S2048x1024 .f32) (k : Fin 2048) (q : Fin 1024) :
    (k0_pay1 (F := Ideal) x (ix2 k q) : EReal) = x (ix2 k q) := by
  unfold_payloads
  pointwise

/-- The cast slab, at an index. -/
theorem pay2_apply (x : Vec Ideal S32x5632 .f32) (k : Fin 32) (q : Fin 5632) :
    (k0_pay2 (F := Ideal) x (ix2 k q) : EReal) = x (ix2 k q) := by
  unfold_payloads
  pointwise

/-- The stored product, at an index. -/
theorem pay3_apply (x : Vec Ideal S1024x2048 .bf16) (w : Vec Ideal S2048x1024 .bf16) (r q : Fin 1024) :
    (k0_pay3 (F := Ideal) x w (ix2 r q) : EReal) = ∑ k : Fin 2048, (x (ix2 r k) : EReal) * w (ix2 k q) := by
  unfold_payloads
  pointwise

/-- After point `n` the scratch holds column tile `n / 16` of the weight. -/
theorem scratch (n : ℕ) (hn : n < cfg0.N) (k : Fin 2048) (q : Fin 1024) :
    ((outsAt0 m c n hn).2.2 (ix2 k q) : EReal) = arg1 m c (ix2 k (wcol (n / 16) q)) := by
  induction n with
  | zero =>
    have e := outs_head m c ⟨0, hn⟩ (by rfl)
    dsimp only at e
    rw [e]
    exact (pay1_apply _ k q).trans (blk1 m c ⟨0, hn⟩ k q)
  | succ n ih =>
    by_cases h0 : (n + 1) % 16 = 0
    · have e := outs_head m c ⟨n + 1, hn⟩ h0
      dsimp only at e
      rw [e]
      exact (pay1_apply _ k q).trans (blk1 m c ⟨n + 1, hn⟩ k q)
    · have e := outs_tail m c ⟨n + 1, hn⟩ h0
      dsimp only at e
      rw [e]
      refine (ih (Nat.lt_of_succ_lt hn)).trans ?_
      rw [show (n + 1) / 16 = n / 16 by omega]

/-- What point `n` stores of the projection: its rows against its column tile of the weight. -/
theorem out_apply (n : ℕ) (hn : n < cfg0.N) (r q : Fin 1024) :
    ((outsAt0 m c n hn).1 (ix2 r q) : EReal) = ∑ k : Fin 2048, arg0 m c (ix2 (row n r) k)
      * arg1 m c (ix2 k (wcol (n / 16) q)) := by
  by_cases h0 : n % 16 = 0
  · have e := outs_head m c ⟨n, hn⟩ h0
    dsimp only at e
    rw [e]
    refine (pay3_apply _ _ r q).trans (Finset.sum_congr rfl fun k _ => ?_)
    rw [blk0, pay1_apply, blk1]
  · have e := outs_tail m c ⟨n, hn⟩ h0
    dsimp only at e
    rw [e]
    refine (pay3_apply _ _ r q).trans (Finset.sum_congr rfl fun k _ => ?_)
    rw [blk0, scratch, show (n - 1) / 16 = n / 16 by omega]

/-- What point `n` stores of the side cast: its slab. -/
theorem side_apply (n : ℕ) (hn : n < cfg0.N) (r : Fin 32) (q : Fin 5632) :
    ((outsAt0 m c n hn).2.1 (ix2 r q) : EReal) = arg2 m c (ix2 (slab ⟨n, hn⟩ r) q) := by
  by_cases h0 : n % 16 = 0
  · have e := outs_head m c ⟨n, hn⟩ h0
    dsimp only at e
    rw [e]
    exact (pay2_apply _ r q).trans (blk2 m c ⟨n, hn⟩ r q)
  · have e := outs_tail m c ⟨n, hn⟩ h0
    dsimp only at e
    rw [e]
    exact (pay2_apply _ r q).trans (blk2 m c ⟨n, hn⟩ r q)

/-- The projection onto the first 3072 and the sixth 1024 columns of the weight. -/
def specAt (h : S16384x2048.Idx → EReal) (w : S2048x10240.Idx → EReal) (a : Fin 16384) (b : Fin 4096) : EReal :=
  if h3 : b.val < 3072 then ∑ k : Fin 2048, h (ix2 a k) * w (ix2 k ⟨b.val, by omega⟩)
  else ∑ k : Fin 2048, h (ix2 a k) * w (ix2 k ⟨5120 + (b.val - 3072), by omega⟩)

/-- The projection as an array. -/
def spec (h : S16384x2048.Idx → EReal) (w : S2048x10240.Idx → EReal) (i : S16384x4096.Idx) : EReal := specAt h w (i 0) (i 1)

/-- The kernel's first result is the projection. -/
theorem G3_eq : Value.G3 m c = spec (arg0 m c) (arg1 m c) := by
  funext i
  obtain ⟨a, b, rfl⟩ : ∃ (a : Fin 16384) (b : Fin 4096), i = ix2 a b := ⟨i 0, i 1, Shape.idx_ext₂ rfl rfl⟩
  have hp : Value.pt3Of (ix2 a b) = a.val / 1024 + 16 * (b.val / 1024) := by
    show 1 * (a.val / 1024 - 0) + 16 * (b.val / 1024 - 0) = _
    omega
  have hN : Value.pt3Of (ix2 a b) < cfg0.N := by rw [hp]; exact lt_of_lt_of_eq (by omega) N_0.symm
  have hl : Value.loc3Of (ix2 a b) = ix2 ⟨a.val % 1024, by omega⟩ ⟨b.val % 1024, by omega⟩ := Shape.idx_ext₂ rfl rfl
  unfold Value.G3
  rw [dif_pos hN, ← Value.outsAt0_sweep m c _ hN, hl]
  refine (out_apply m c _ hN _ _).trans ?_
  have hr : row (Value.pt3Of (ix2 a b)) ⟨a.val % 1024, by omega⟩ = a := Fin.ext (by
    show Value.pt3Of (ix2 a b) % 16 * 1024 + a.val % 1024 = a.val
    omega)
  rw [hr]
  show _ = specAt (arg0 m c) (arg1 m c) a b
  unfold specAt
  by_cases h3 : b.val < 3072
  · rw [dif_pos h3]
    refine Finset.sum_congr rfl fun k _ => congrArg (arg0 m c (ix2 a k) * ·) (congrArg (arg1 m c) (Shape.idx_ext₂ rfl ?_))
    show (if Value.pt3Of (ix2 a b) / 16 < 3 then Value.pt3Of (ix2 a b) / 16 else 5) * 1024 + b.val % 1024 = b.val
    split <;> omega
  · rw [dif_neg h3]
    refine Finset.sum_congr rfl fun k _ => congrArg (arg0 m c (ix2 a k) * ·) (congrArg (arg1 m c) (Shape.idx_ext₂ rfl ?_))
    show (if Value.pt3Of (ix2 a b) / 16 < 3 then Value.pt3Of (ix2 a b) / 16 else 5) * 1024 + b.val % 1024
      = 5120 + (b.val - 3072)
    split <;> omega

/-- The kernel's second result is the side weight. -/
theorem G4_eq : Value.G4 m c = arg2 m c := by
  funext i
  obtain ⟨a, b, rfl⟩ : ∃ (a : Fin 2048) (b : Fin 5632), i = ix2 a b := ⟨i 0, i 1, Shape.idx_ext₂ rfl rfl⟩
  have hp : Value.pt4Of (ix2 a b) = a.val / 32 := by
    show 1 * (a.val / 32 - 0) + 1 * (b.val / 5632 - 0) = _
    omega
  have hN : Value.pt4Of (ix2 a b) < cfg0.N := by rw [hp]; exact lt_of_lt_of_eq (by omega) N_0.symm
  have hl : Value.loc4Of (ix2 a b) = ix2 ⟨a.val % 32, by omega⟩ ⟨b.val % 5632, by omega⟩ := Shape.idx_ext₂ rfl rfl
  unfold Value.G4
  rw [dif_pos hN, ← Value.outsAt0_sweep m c _ hN, hl, side_apply]
  refine congrArg _ (Shape.idx_ext₂ ?_ ?_)
  · show Value.pt4Of (ix2 a b) * 32 + a.val % 32 = a.val
    omega
  · show b.val % 5632 = b.val
    omega

/-- The tiled projection and the reference's leave the same arrays, over the extended reals. -/
theorem algebraic : Cert.algebraic_Kernel4Ideal_Reference4Ideal := fun m ρ m' ρ' _ hag =>
  ⟨fun c => Value.G3 m c, fun c => Value.G4 m c, Value.run m ρ, (θ_run _ _ _).mono (fun _ h c => ⟨(h c).1.trans (by
    obtain ⟨h0, h1, h2⟩ := hag c
    rw [h0, h1]
    refine Eq.trans ?_ (G3_eq m c).symm
    funext i
    idx_vars i
    unfold spec specAt
    pointwise), (h c).2.1.trans (by
    obtain ⟨h0, h1, h2⟩ := hag c
    rw [h2]
    refine Eq.trans ?_ (G4_eq m c).symm
    funext i
    idx_vars i
    pointwise), (h c).2.2⟩) (Cert.Reference4Ideal.Value.run m' ρ')⟩

end Cert.Proof.InProjPlain
-- ==== Proof.InProjHeads.lean ====
/-
  The input projection's queries and keys of the chunked attention (`Kernel5Ideal`): each head's 128 columns are scaled
  to unit mean square and by the gain of their part. Beside it four weights are cast, slab by slab. The reference
  `Reference5Ideal` norms the two parts apart and joins them. Both leave the same arrays, over the extended reals.
-/
module

public import proofs.«01_k».proof.Defs
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import proofs.«01_k».proof.Proof.Facts
public import Idealize.ShloMosaic.Lib.ValueLayout
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProjHeads

open Cert.Kernel5Ideal Cert.Kernel5Ideal.Gen

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- Argument 0, as numbers. -/
abbrev arg0 : S16384x2048.Idx → EReal := m ((c : Thread nD τ).loc main_arg0)

/-- Argument 1, as numbers. -/
abbrev arg1 : S2048x10240.Idx → EReal := m ((c : Thread nD τ).loc main_arg1)

/-- Argument 2, as numbers. -/
abbrev arg2 : S128.Idx → EReal := m ((c : Thread nD τ).loc main_arg2)

/-- Argument 3, as numbers. -/
abbrev arg3 : S128.Idx → EReal := m ((c : Thread nD τ).loc main_arg3)

/-- Argument 4, as numbers. -/
abbrev arg4 : S5632x2048.Idx → EReal := m ((c : Thread nD τ).loc main_arg4)

/-- Argument 5, as numbers. -/
abbrev arg5 : S1024x2048.Idx → EReal := m ((c : Thread nD τ).loc main_arg5)

/-- Argument 6, as numbers. -/
abbrev arg6 : S1024x2048.Idx → EReal := m ((c : Thread nD τ).loc main_arg6)

/-- Argument 7, as numbers. -/
abbrev arg7 : S2048x2048.Idx → EReal := m ((c : Thread nD τ).loc main_arg7)

/-- Column `q` of a head's part: entry `e` of the head that `q` lies in. -/
def hcol (q e : ℕ) (he : e < 128) (hq : q < 1024) : Fin 1024 := ⟨q / 128 * 128 + e, by omega⟩

/-- Entry `q` of a row of 1024 numbers whose eight heads are each scaled to unit mean square and by the gain `g`. -/
def headAt (x : Fin 1024 → EReal) (g : Fin 128 → EReal) (q : Fin 1024) : EReal :=
  Facts.rms 0x43000000#32 (fun e : Fin 128 => x (hcol q.val e.val e.isLt q.isLt)) g ⟨q.val % 128, by omega⟩

/-- The product of a row tile with a weight tile. -/
theorem pay8_apply (x : Vec Ideal S1024x2048 .bf16) (w : Vec Ideal S2048x1024 .bf16) (r q : Fin 1024) :
    (k0_pay8 (F := Ideal) x w (ix2 r q) : EReal) = ∑ k : Fin 2048, (x (ix2 r k) : EReal) * w (ix2 k q) := by
  unfold_payloads
  pointwise

theorem pay9_apply (g : Vec Ideal S1x128 .f32) (e : Fin 128) :
    (k0_pay9 (F := Ideal) g (ix2 (0 : Fin 1) e) : EReal) = g (ix2 (0 : Fin 1) e) := by
  unfold_payloads
  pointwise

/-- What is stored of head 0. -/
theorem head0_apply (x : Vec Ideal S1024x2048 .bf16) (w : Vec Ideal S2048x1024 .bf16) (g : FVec Ideal S1x128 .f32) (r : Fin 1024) (d : Fin 128) :
    (k0_pay12 (F := Ideal) g (k0_pay10 x w) (k0_pay11 x w) (ix2 r d) : EReal)
      = Facts.rms 0x43000000#32 (fun e : Fin 128 => (k0_pay8 x w (ix2 r (⟨0 + e.val, by omega⟩ : Fin 1024)) : EReal)) (fun e => g (ix2 (0 : Fin 1) e)) d := by
  unfold k0_pay12 k0_pay11 k0_pay10 Facts.rms
  generalize k0_pay8 x w = P
  dsimp only
  pointwise

/-- What is stored of head 1. -/
theorem head1_apply (x : Vec Ideal S1024x2048 .bf16) (w : Vec Ideal S2048x1024 .bf16) (g : FVec Ideal S1x128 .f32) (r : Fin 1024) (d : Fin 128) :
    (k0_pay13 (F := Ideal) (k0_pay8 x w) g (ix2 r d) : EReal)
      = Facts.rms 0x43000000#32 (fun e : Fin 128 => (k0_pay8 x w (ix2 r (⟨128 + e.val, by omega⟩ : Fin 1024)) : EReal)) (fun e => g (ix2 (0 : Fin 1) e)) d := by
  unfold k0_pay13 Facts.rms
  generalize k0_pay8 x w = P
  dsimp only
  pointwise

/-- What is stored of head 2. -/
theorem head2_apply (x : Vec Ideal S1024x2048 .bf16) (w : Vec Ideal S2048x1024 .bf16) (g : FVec Ideal S1x128 .f32) (r : Fin 1024) (d : Fin 128) :
    (k0_pay14 (F := Ideal) (k0_pay8 x w) g (ix2 r d) : EReal)
      = Facts.rms 0x43000000#32 (fun e : Fin 128 => (k0_pay8 x w (ix2 r (⟨256 + e.val, by omega⟩ : Fin 1024)) : EReal)) (fun e => g (ix2 (0 : Fin 1) e)) d := by
  unfold k0_pay14 Facts.rms
  generalize k0_pay8 x w = P
  dsimp only
  pointwise

/-- What is stored of head 3. -/
theorem head3_apply (x : Vec Ideal S1024x2048 .bf16) (w : Vec Ideal S2048x1024 .bf16) (g : FVec Ideal S1x128 .f32) (r : Fin 1024) (d : Fin 128) :
    (k0_pay17 (F := Ideal) g (k0_pay15 (k0_pay8 x w)) (k0_pay16 (k0_pay8 x w)) (ix2 r d) : EReal)
      = Facts.rms 0x43000000#32 (fun e : Fin 128 => (k0_pay8 x w (ix2 r (⟨384 + e.val, by omega⟩ : Fin 1024)) : EReal)) (fun e => g (ix2 (0 : Fin 1) e)) d := by
  unfold k0_pay17 k0_pay16 k0_pay15 Facts.rms
  generalize k0_pay8 x w = P
  dsimp only
  pointwise

/-- What is stored of head 4. -/
theorem head4_apply (x : Vec Ideal S1024x2048 .bf16) (w : Vec Ideal S2048x1024 .bf16) (g : FVec Ideal S1x128 .f32) (r : Fin 1024) (d : Fin 128) :
    (k0_pay18 (F := Ideal) (k0_pay8 x w) g (ix2 r d) : EReal)
      = Facts.rms 0x43000000#32 (fun e : Fin 128 => (k0_pay8 x w (ix2 r (⟨512 + e.val, by omega⟩ : Fin 1024)) : EReal)) (fun e => g (ix2 (0 : Fin 1) e)) d := by
  unfold k0_pay18 Facts.rms
  generalize k0_pay8 x w = P
  dsimp only
  pointwise

/-- What is stored of head 5. -/
theorem head5_apply (x : Vec Ideal S1024x2048 .bf16) (w : Vec Ideal S2048x1024 .bf16) (g : FVec Ideal S1x128 .f32) (r : Fin 1024) (d : Fin 128) :
    (k0_pay19 (F := Ideal) (k0_pay8 x w) g (ix2 r d) : EReal)
      = Facts.rms 0x43000000#32 (fun e : Fin 128 => (k0_pay8 x w (ix2 r (⟨640 + e.val, by omega⟩ : Fin 1024)) : EReal)) (fun e => g (ix2 (0 : Fin 1) e)) d := by
  unfold k0_pay19 Facts.rms
  generalize k0_pay8 x w = P
  dsimp only
  pointwise

/-- What is stored of head 6. -/
theorem head6_apply (x : Vec Ideal S1024x2048 .bf16) (w : Vec Ideal S2048x1024 .bf16) (g : FVec Ideal S1x128 .f32) (r : Fin 1024) (d : Fin 128) :
    (k0_pay1 (F := Ideal) g (k0_pay20 (k0_pay8 x w)) (k0_pay21 (k0_pay8 x w)) (ix2 r d) : EReal)
      = Facts.rms 0x43000000#32 (fun e : Fin 128 => (k0_pay8 x w (ix2 r (⟨768 + e.val, by omega⟩ : Fin 1024)) : EReal)) (fun e => g (ix2 (0 : Fin 1) e)) d := by
  unfold k0_pay1 k0_pay21 k0_pay20 Facts.rms
  generalize k0_pay8 x w = P
  dsimp only
  pointwise

/-- What is stored of head 7. -/
theorem head7_apply (x : Vec Ideal S1024x2048 .bf16) (w : Vec Ideal S2048x1024 .bf16) (g : FVec Ideal S1x128 .f32) (r : Fin 1024) (d : Fin 128) :
    (k0_pay2 (F := Ideal) (k0_pay8 x w) g (ix2 r d) : EReal)
      = Facts.rms 0x43000000#32 (fun e : Fin 128 => (k0_pay8 x w (ix2 r (⟨896 + e.val, by omega⟩ : Fin 1024)) : EReal)) (fun e => g (ix2 (0 : Fin 1) e)) d := by
  unfold k0_pay2 Facts.rms
  generalize k0_pay8 x w = P
  dsimp only
  pointwise

/-- The load of a point's row of gains. -/
theorem gain_ld (x2 : Vec Ideal S2x128 .f32) (n : Fin 2) (inb) (e : Fin 128) :
    (View.ld (Val := Elt Ideal) (e' := .f32) x2 (Rect.unit (s := S2x128) ![BitVec.toNat (Scalar.indexCast (BitVec.ofNat 32 n.val)), 0] ![1, 128] inb) (ix2 (0 : Fin 1) e) : EReal)
      = x2 (ix2 n e) := by
  refine View.ld_unit_apply_of (S := S2x128) x2 _ _ _ _ (ix2 n e) fun a => ?_
  fin_cases a
  · show n.val = BitVec.toNat (Scalar.indexCast (BitVec.ofNat 32 n.val)) + 0
    revert n
    decide
  · show e.val = 0 + e.val
    omega

/-- A head's norm, with the head named by an entry of the row. -/
theorem rms_eq_headAt (P : Fin 1024 → EReal) (g g' : Fin 128 → EReal) (h : ℕ) (q : Fin 1024) (d : Fin 128)
    (hq : q.val = h * 128 + d.val) (idx : Fin 128 → Fin 1024) (hidx : ∀ e, (idx e).val = h * 128 + e.val) (hg : ∀ e, g e = g' e) :
    Facts.rms 0x43000000#32 (fun e => P (idx e)) g d = headAt P g' q := by
  have hd : (⟨q.val % 128, by omega⟩ : Fin 128) = d := Fin.ext (by
    show q.val % 128 = d.val
    omega)
  have hi : ∀ e : Fin 128, hcol q.val e.val e.isLt q.isLt = idx e := fun e => Fin.ext (by
    rw [hidx]
    show q.val / 128 * 128 + e.val = _
    omega)
  unfold headAt
  rw [hd, show g = g' from funext hg]
  exact congrArg (fun F => Facts.rms 0x43000000#32 F g' d) (funext fun e => congrArg P (hi e).symm)

/-- What a point stores of its tile: every head scaled to unit mean square and by row `n` of the gains. -/
def heads (x : Vec Ideal S1024x2048 .bf16) (w : Vec Ideal S2048x1024 .bf16) (g : Vec Ideal S2x128 .f32) (n : Fin 2) : Vec Ideal S1024x1024 .bf16 :=
  fun y => headAt (fun p => k0_pay8 x w (ix2 (y 0) p)) (fun e => g (ix2 n e)) (y 1)

/-- The tile a point stores (head of a column tile), from its eight stores. -/
theorem out0_A_7_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = heads x0 (k0_pay3 x1) x2 (i 0) := by
  funext y
  obtain ⟨r, q, rfl⟩ : ∃ (r q : Fin 1024), y = ix2 r q := ⟨y 0, y 1, Shape.idx_ext₂ rfl rfl⟩
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz, View.readCov_unit_zero (S := S2048x1024) _ hz]
  canon_tiles x h
  · obtain ⟨a, d, rfl⟩ : ∃ (a : Fin 1024) (d : Fin 128), x = ix2 a d := ⟨x 0, x 1, Shape.idx_ext₂ rfl rfl⟩
    obtain rfl : r = a := Fin.ext h0
    exact (head7_apply x0 (k0_pay3 x1) _ r d).trans (rms_eq_headAt (fun p => k0_pay8 x0 (k0_pay3 x1) (ix2 r p)) _ _ 7 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head6_apply x0 (k0_pay3 x1) _ r d).trans (rms_eq_headAt (fun p => k0_pay8 x0 (k0_pay3 x1) (ix2 r p)) _ _ 6 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head5_apply x0 (k0_pay3 x1) _ r d).trans (rms_eq_headAt (fun p => k0_pay8 x0 (k0_pay3 x1) (ix2 r p)) _ _ 5 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head4_apply x0 (k0_pay3 x1) _ r d).trans (rms_eq_headAt (fun p => k0_pay8 x0 (k0_pay3 x1) (ix2 r p)) _ _ 4 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head3_apply x0 (k0_pay3 x1) _ r d).trans (rms_eq_headAt (fun p => k0_pay8 x0 (k0_pay3 x1) (ix2 r p)) _ _ 3 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head2_apply x0 (k0_pay3 x1) _ r d).trans (rms_eq_headAt (fun p => k0_pay8 x0 (k0_pay3 x1) (ix2 r p)) _ _ 2 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head1_apply x0 (k0_pay3 x1) _ r d).trans (rms_eq_headAt (fun p => k0_pay8 x0 (k0_pay3 x1) (ix2 r p)) _ _ 1 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head0_apply x0 (k0_pay3 x1) _ r d).trans (rms_eq_headAt (fun p => k0_pay8 x0 (k0_pay3 x1) (ix2 r p)) _ _ 0 q d
      (by simpa [Idealize.ShloMosaic.ix2, Nat.add_comm] using h1) _ (fun _ => rfl) (fun e => (pay9_apply _ e).trans (gain_ld x2 (i 0) _ e)))

/-- The tile a point stores (later point of a column tile), from its eight stores. -/
theorem out0_B_7_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : ¬cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) (xs0 : Vec Ideal S2048x1024 .bf16) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = heads x0 xs0 x2 (i 0) := by
  funext y
  obtain ⟨r, q, rfl⟩ : ∃ (r q : Fin 1024), y = ix2 r q := ⟨y 0, y 1, Shape.idx_ext₂ rfl rfl⟩
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0)]
  unfold kernelRun0_B
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]
  canon_tiles x h
  · obtain ⟨a, d, rfl⟩ : ∃ (a : Fin 1024) (d : Fin 128), x = ix2 a d := ⟨x 0, x 1, Shape.idx_ext₂ rfl rfl⟩
    obtain rfl : r = a := Fin.ext h0
    exact (head7_apply x0 xs0 _ r d).trans (rms_eq_headAt (fun p => k0_pay8 x0 xs0 (ix2 r p)) _ _ 7 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head6_apply x0 xs0 _ r d).trans (rms_eq_headAt (fun p => k0_pay8 x0 xs0 (ix2 r p)) _ _ 6 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head5_apply x0 xs0 _ r d).trans (rms_eq_headAt (fun p => k0_pay8 x0 xs0 (ix2 r p)) _ _ 5 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head4_apply x0 xs0 _ r d).trans (rms_eq_headAt (fun p => k0_pay8 x0 xs0 (ix2 r p)) _ _ 4 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head3_apply x0 xs0 _ r d).trans (rms_eq_headAt (fun p => k0_pay8 x0 xs0 (ix2 r p)) _ _ 3 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head2_apply x0 xs0 _ r d).trans (rms_eq_headAt (fun p => k0_pay8 x0 xs0 (ix2 r p)) _ _ 2 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head1_apply x0 xs0 _ r d).trans (rms_eq_headAt (fun p => k0_pay8 x0 xs0 (ix2 r p)) _ _ 1 q d
      (by simpa [Idealize.ShloMosaic.ix2, Nat.add_comm] using h1) _ (fun _ => rfl) (fun e => (pay9_apply _ e).trans (gain_ld x2 (i 0) _ e)))
  · obtain ⟨a, d, rfl⟩ : ∃ (a : Fin 1024) (d : Fin 128), x = ix2 a d := ⟨x 0, x 1, Shape.idx_ext₂ rfl rfl⟩
    obtain rfl : r = a := Fin.ext h0
    exact (head0_apply x0 xs0 _ r d).trans (rms_eq_headAt (fun p => k0_pay8 x0 xs0 (ix2 r p)) _ _ 0 q d
      (by simpa [Idealize.ShloMosaic.ix2, Nat.add_comm] using h1) _ (fun _ => rfl) (fun e => (pay9_apply _ e).trans (gain_ld x2 (i 0) _ e)))

/-- At the head of a column tile the scratch ends at the weight tile, cast. -/
theorem sout0_A_0_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At the head of a column tile side cast 1 writes its slab. -/
theorem out0_A_8_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay4 x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At a later point of a column tile side cast 1 writes its slab. -/
theorem out0_B_8_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : ¬cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) (xs0 : Vec Ideal S2048x1024 .bf16) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay4 x3 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At the head of a column tile side cast 2 writes its slab. -/
theorem out0_A_9_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay5 x4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At a later point of a column tile side cast 2 writes its slab. -/
theorem out0_B_9_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : ¬cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) (xs0 : Vec Ideal S2048x1024 .bf16) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay5 x4 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At the head of a column tile side cast 3 writes its slab. -/
theorem out0_A_10_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay6 x5 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At a later point of a column tile side cast 3 writes its slab. -/
theorem out0_B_10_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : ¬cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) (xs0 : Vec Ideal S2048x1024 .bf16) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay6 x5 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At the head of a column tile side cast 4 writes its slab. -/
theorem out0_A_11_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay7 x6 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- At a later point of a column tile side cast 4 writes its slab. -/
theorem out0_B_11_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S2x128 .f32) (harg4 : arg4.IsWhole) (arg5 : Memref sig .tc .vmem S176x2048 .f32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S1024x1024 .bf16) (harg9 : arg9.IsWhole) (arg10 : Memref sig .tc .vmem S176x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S64x2048 .bf16) (harg13 : arg13.IsWhole) (arg14 : Memref sig .tc .vmem S2048x1024 .bf16) (harg14 : arg14.IsWhole) (hc0 : ¬cond0_0 i)
    (x0 : Vec Ideal S1024x2048 .bf16) (x1 : Vec Ideal S2048x1024 .f32) (x2 : Vec Ideal S2x128 .f32) (x3 : Vec Ideal S176x2048 .f32) (x4 : Vec Ideal S32x2048 .f32) (x5 : Vec Ideal S32x2048 .f32) (x6 : Vec Ideal S64x2048 .f32) (xs0 : Vec Ideal S2048x1024 .bf16) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay7 x6 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x2048) hz, View.ld_unit_zero (S := S2048x1024) hz, View.ld_unit_zero (S := S176x2048) hz, View.ld_unit_zero (S := S32x2048) hz, View.ld_unit_zero (S := S64x2048) hz, View.ld_unit_zero (S := S2x128) hz]

/-- A point at the head of a column tile: the cast weight tile goes to the scratch and is what the product reads. -/
theorem outs_head (t : Fin cfg0.N) (h0 : t.val % 16 = 0) : outsAt0 m c t.val t.isLt =
    (heads (iblk m c 0 t) (k0_pay3 (iblk m c 1 t)) (iblk m c 2 t) (grid0.coords t 0), k0_pay4 (iblk m c 3 t), k0_pay5 (iblk m c 4 t), k0_pay6 (iblk m c 5 t), k0_pay7 (iblk m c 6 t), k0_pay3 (iblk m c 1 t)) := by
  rw [outsAt0_A m c t h0, out0_A_7_eq, out0_A_8_eq, out0_A_9_eq, out0_A_10_eq, out0_A_11_eq, sout0_A_0_eq]

/-- A later point of a column tile: the product reads the scratch as the point before left it. -/
theorem outs_tail (t : Fin cfg0.N) (h0 : ¬t.val % 16 = 0) : outsAt0 m c t.val t.isLt =
    (heads (iblk m c 0 t) (outsAt0 m c (t.val - 1) (Nat.lt_of_le_of_lt (Nat.sub_le _ _) t.isLt)).2.2.2.2.2 (iblk m c 2 t) (grid0.coords t 0),
      k0_pay4 (iblk m c 3 t), k0_pay5 (iblk m c 4 t), k0_pay6 (iblk m c 5 t), k0_pay7 (iblk m c 6 t), (outsAt0 m c (t.val - 1) (Nat.lt_of_le_of_lt (Nat.sub_le _ _) t.isLt)).2.2.2.2.2) := by
  rw [outsAt0_B m c t h0, out0_B_7_eq, out0_B_8_eq, out0_B_9_eq, out0_B_10_eq, out0_B_11_eq]
  rfl

/-- The index maps, decided over the grid: point `t` is row tile `t % 16` of part `t / 16`; the two parts are blocks 3
    and 4 of the weight; the side casts work slab by slab. -/
theorem idx_facts : ∀ t : Fin cfg0.N, win0_0.index t = ![t.val % 16, 0]
    ∧ win0_1.index t = ![0, t.val / 16 + 3] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

theorem part_eq : ∀ t : Fin cfg0.N, (grid0.coords t 0).val = t.val / 16 :=
  (by decide +kernel : ∀ t : Fin grid0.N, (grid0.coords t 0).val = t.val / 16)

theorem lt_N (t : Fin cfg0.N) : t.val < 32 := lt_of_lt_of_eq t.isLt N_0

/-- Row `r` of point `n`'s row tile, as a row of the array. -/
def row (n : ℕ) (r : Fin 1024) : Fin 16384 := ⟨n % 16 * 1024 + r.val, by omega⟩

/-- Column `q` of part `j`, as a column of the weight. -/
def wcol (j : ℕ) (q : Fin 1024) : Fin 10240 := ⟨3072 + (j % 2 * 1024 + q.val), by omega⟩

/-- Row `r` of slab `t` of a side weight. -/
def slab3 (t : Fin cfg0.N) (r : Fin 176) : Fin 5632 := ⟨t.val * 176 + r.val, by have := lt_N t; omega⟩
def slab4 (t : Fin cfg0.N) (r : Fin 32) : Fin 1024 := ⟨t.val * 32 + r.val, by have := lt_N t; omega⟩
def slab6 (t : Fin cfg0.N) (r : Fin 64) : Fin 2048 := ⟨t.val * 64 + r.val, by have := lt_N t; omega⟩

/-- The gain of part `j`. -/
def gain (qn kn : S128.Idx → EReal) (j : ℕ) (e : Fin 128) : EReal :=
  if j = 0 then qn (Idealize.ShloMosaic.ix1 e) else kn (Idealize.ShloMosaic.ix1 e)

/-- The gains as the region reads them: a row for each part. -/
theorem V_gains (j : Fin 2) (e : Fin 128) : (V m c main_v2 (ix2 j e) : EReal) = gain (arg2 m c) (arg3 m c) j.val e := by
  have h : V m c main_v2 = concatenate S2x128 0 [⟨S1x128, broadcastInDim S1x128 ![1] bcast_S128_S1x128_1 (arg2 m c)⟩, ⟨S1x128, broadcastInDim S1x128 ![1] bcast_S128_S1x128_1 (arg3 m c)⟩] concatenates_S1x128_S1x128_S2x128_d0 := by
    unfold V hostOps0
    after_results
  rw [h]
  unfold gain
  fin_cases j
  · pointwise
  · pointwise

theorem blk0 (t : Fin cfg0.N) (r : Fin 1024) (k : Fin 2048) :
    (iblk m c 0 t (ix2 r k) : EReal) = arg0 m c (ix2 (row t.val r) k) := by
  obtain ⟨h, -⟩ := idx_facts t
  show V m c main_arg0 (((cfg0.win 0).blk t).view.emb (ix2 r k)) = _
  rw [V_main_arg0]
  refine congrArg _ (Shape.idx_ext₂ ?_ ?_)
  · show win0_0.index t (0 : Fin 2) * 1024 + 1 * r.val = t.val % 16 * 1024 + r.val; rw [h]; simp
  · show win0_0.index t (1 : Fin 2) * 2048 + 1 * k.val = k.val; rw [h]; simp

theorem blk1 (t : Fin cfg0.N) (r : Fin 2048) (k : Fin 1024) :
    (iblk m c 1 t (ix2 r k) : EReal) = arg1 m c (ix2 r (wcol (t.val / 16) k)) := by
  have hN := lt_N t
  obtain ⟨-, h, -⟩ := idx_facts t
  show V m c main_arg1 (((cfg0.win 1).blk t).view.emb (ix2 r k)) = _
  rw [V_main_arg1]
  refine congrArg _ (Shape.idx_ext₂ ?_ ?_)
  · show win0_1.index t (0 : Fin 2) * 2048 + 1 * r.val = r.val; rw [h]; simp
  · show win0_1.index t (1 : Fin 2) * 1024 + 1 * k.val = 3072 + (t.val / 16 % 2 * 1024 + k.val); rw [h]; simp; omega

theorem blk3 (t : Fin cfg0.N) (r : Fin 176) (k : Fin 2048) :
    (iblk m c 3 t (ix2 r k) : EReal) = arg4 m c (ix2 (slab3 t r) k) := by
  obtain ⟨-, -, -, h, -⟩ := idx_facts t
  show V m c main_arg4 (((cfg0.win 3).blk t).view.emb (ix2 r k)) = _
  rw [V_main_arg4]
  refine congrArg _ (Shape.idx_ext₂ ?_ ?_)
  · show win0_3.index t (0 : Fin 2) * 176 + 1 * r.val = t.val * 176 + r.val; rw [h]; simp
  · show win0_3.index t (1 : Fin 2) * 2048 + 1 * k.val = k.val; rw [h]; simp

theorem blk4 (t : Fin cfg0.N) (r : Fin 32) (k : Fin 2048) :
    (iblk m c 4 t (ix2 r k) : EReal) = arg5 m c (ix2 (slab4 t r) k) := by
  obtain ⟨-, -, -, -, h, -⟩ := idx_facts t
  show V m c main_arg5 (((cfg0.win 4).blk t).view.emb (ix2 r k)) = _
  rw [V_main_arg5]
  refine congrArg _ (Shape.idx_ext₂ ?_ ?_)
  · show win0_4.index t (0 : Fin 2) * 32 + 1 * r.val = t.val * 32 + r.val; rw [h]; simp
  · show win0_4.index t (1 : Fin 2) * 2048 + 1 * k.val = k.val; rw [h]; simp

theorem blk5 (t : Fin cfg0.N) (r : Fin 32) (k : Fin 2048) :
    (iblk m c 5 t (ix2 r k) : EReal) = arg6 m c (ix2 (slab4 t r) k) := by
  obtain ⟨-, -, -, -, -, h, -⟩ := idx_facts t
  show V m c main_arg6 (((cfg0.win 5).blk t).view.emb (ix2 r k)) = _
  rw [V_main_arg6]
  refine congrArg _ (Shape.idx_ext₂ ?_ ?_)
  · show win0_5.index t (0 : Fin 2) * 32 + 1 * r.val = t.val * 32 + r.val; rw [h]; simp
  · show win0_5.index t (1 : Fin 2) * 2048 + 1 * k.val = k.val; rw [h]; simp

theorem blk6 (t : Fin cfg0.N) (r : Fin 64) (k : Fin 2048) :
    (iblk m c 6 t (ix2 r k) : EReal) = arg7 m c (ix2 (slab6 t r) k) := by
  obtain ⟨-, -, -, -, -, -, h⟩ := idx_facts t
  show V m c main_arg7 (((cfg0.win 6).blk t).view.emb (ix2 r k)) = _
  rw [V_main_arg7]
  refine congrArg _ (Shape.idx_ext₂ ?_ ?_)
  · show win0_6.index t (0 : Fin 2) * 64 + 1 * r.val = t.val * 64 + r.val; rw [h]; simp
  · show win0_6.index t (1 : Fin 2) * 2048 + 1 * k.val = k.val; rw [h]; simp

theorem blk2 (t : Fin cfg0.N) (j : Fin 2) (k : Fin 128) :
    (iblk m c 2 t (ix2 j k) : EReal) = gain (arg2 m c) (arg3 m c) j.val k := by
  obtain ⟨-, -, h, -⟩ := idx_facts t
  rw [← V_gains]
  show V m c main_v2 (((cfg0.win 2).blk t).view.emb (ix2 j k)) = _
  refine congrArg _ (Shape.idx_ext₂ ?_ ?_)
  · show win0_2.index t (0 : Fin 2) * 2 + 1 * j.val = j.val; rw [h]; simp
  · show win0_2.index t (1 : Fin 2) * 128 + 1 * k.val = k.val; rw [h]; simp

/-- The cast weight tile, at an index. -/
theorem pay3_apply (x : Vec Ideal S2048x1024 .f32) (k : Fin 2048) (q : Fin 1024) :
    (k0_pay3 (F := Ideal) x (ix2 k q) : EReal) = x (ix2 k q) := by
  unfold_payloads
  pointwise

theorem pay4_apply (x : Vec Ideal S176x2048 .f32) (k : Fin 176) (q : Fin 2048) :
    (k0_pay4 (F := Ideal) x (ix2 k q) : EReal) = x (ix2 k q) := by
  unfold_payloads
  pointwise

theorem pay5_apply (x : Vec Ideal S32x2048 .f32) (k : Fin 32) (q : Fin 2048) :
    (k0_pay5 (F := Ideal) x (ix2 k q) : EReal) = x (ix2 k q) := by
  unfold_payloads
  pointwise

theorem pay6_apply (x : Vec Ideal S32x2048 .f32) (k : Fin 32) (q : Fin 2048) :
    (k0_pay6 (F := Ideal) x (ix2 k q) : EReal) = x (ix2 k q) := by
  unfold_payloads
  pointwise

theorem pay7_apply (x : Vec Ideal S64x2048 .f32) (k : Fin 64) (q : Fin 2048) :
    (k0_pay7 (F := Ideal) x (ix2 k q) : EReal) = x (ix2 k q) := by
  unfold_payloads
  pointwise

/-- After point `n` the scratch holds part `n / 16` of the weight. -/
theorem scratch (n : ℕ) (hn : n < cfg0.N) (k : Fin 2048) (q : Fin 1024) :
    ((outsAt0 m c n hn).2.2.2.2.2 (ix2 k q) : EReal) = arg1 m c (ix2 k (wcol (n / 16) q)) := by
  induction n with
  | zero =>
    have e := outs_head m c ⟨0, hn⟩ (by rfl)
    dsimp only at e
    rw [e]
    exact (pay3_apply _ k q).trans (blk1 m c ⟨0, hn⟩ k q)
  | succ n ih =>
    by_cases h0 : (n + 1) % 16 = 0
    · have e := outs_head m c ⟨n + 1, hn⟩ h0
      dsimp only at e
      rw [e]
      exact (pay3_apply _ k q).trans (blk1 m c ⟨n + 1, hn⟩ k q)
    · have e := outs_tail m c ⟨n + 1, hn⟩ h0
      dsimp only at e
      rw [e]
      refine (ih (Nat.lt_of_succ_lt hn)).trans ?_
      rw [show (n + 1) / 16 = n / 16 by omega]

/-- Row `a` of the projection, at column `q` of part `j`. -/
def projAt (h : S16384x2048.Idx → EReal) (w : S2048x10240.Idx → EReal) (a : Fin 16384) (j : ℕ) (q : Fin 1024) : EReal :=
  ∑ k : Fin 2048, h (ix2 a k) * w (ix2 k (wcol j q))

/-- The normalised queries (columns below 1024) and keys at row `a` and column `b`. -/
def specAt (h : S16384x2048.Idx → EReal) (w : S2048x10240.Idx → EReal) (qn kn : S128.Idx → EReal) (a : Fin 16384) (b : Fin 2048) : EReal :=
  headAt (projAt h w a (b.val / 1024)) (gain qn kn (b.val / 1024)) ⟨b.val % 1024, by omega⟩

/-- The normalised queries and keys as an array. -/
def spec (h : S16384x2048.Idx → EReal) (w : S2048x10240.Idx → EReal) (qn kn : S128.Idx → EReal) (i : S16384x2048.Idx) : EReal :=
  specAt h w qn kn (i 0) (i 1)

/-- The stored tile at an index, from what the product reads. -/
theorem heads_apply (t : Fin cfg0.N) (w : Vec Ideal S2048x1024 .bf16) (r q : Fin 1024)
    (hw : ∀ k p, (w (ix2 k p) : EReal) = arg1 m c (ix2 k (wcol (t.val / 16) p))) :
    (heads (iblk m c 0 t) w (iblk m c 2 t) (grid0.coords t 0) (ix2 r q) : EReal)
      = headAt (projAt (arg0 m c) (arg1 m c) (row t.val r) (t.val / 16)) (gain (arg2 m c) (arg3 m c) (t.val / 16)) q := by
  show headAt (fun p => k0_pay8 (iblk m c 0 t) w (ix2 r p)) (fun e => iblk m c 2 t (ix2 (grid0.coords t 0) e)) q = _
  refine congrArg₂ (fun P g => headAt P g q) (funext fun p => ?_) (funext fun e => ?_)
  · refine (pay8_apply _ w r p).trans ?_
    unfold projAt
    refine Finset.sum_congr rfl fun k _ => ?_
    rw [blk0, hw]
  · refine (blk2 m c t _ e).trans ?_
    rw [part_eq]

/-- What point `n` stores of the queries and keys. -/
theorem out_apply (n : ℕ) (hn : n < cfg0.N) (r q : Fin 1024) : ((outsAt0 m c n hn).1 (ix2 r q) : EReal)
      = headAt (projAt (arg0 m c) (arg1 m c) (row n r) (n / 16)) (gain (arg2 m c) (arg3 m c) (n / 16)) q := by
  by_cases h0 : n % 16 = 0
  · have e := outs_head m c ⟨n, hn⟩ h0
    dsimp only at e
    rw [e]
    exact heads_apply m c ⟨n, hn⟩ _ r q fun k p => (pay3_apply _ k p).trans (blk1 m c ⟨n, hn⟩ k p)
  · have e := outs_tail m c ⟨n, hn⟩ h0
    dsimp only at e
    rw [e]
    refine heads_apply m c ⟨n, hn⟩ _ r q fun k p => (scratch m c _ _ k p).trans ?_
    rw [show (n - 1) / 16 = n / 16 by omega]

/-- The kernel's first result is the normalised queries and keys. -/
theorem G7_eq : Value.G7 m c = spec (arg0 m c) (arg1 m c) (arg2 m c) (arg3 m c) := by
  funext i
  obtain ⟨a, b, rfl⟩ : ∃ (a : Fin 16384) (b : Fin 2048), i = ix2 a b := ⟨i 0, i 1, Shape.idx_ext₂ rfl rfl⟩
  have hp : Value.pt7Of (ix2 a b) = a.val / 1024 + 16 * (b.val / 1024) := by
    show 1 * (a.val / 1024 - 0) + 16 * (b.val / 1024 - 0) = _
    omega
  have hN : Value.pt7Of (ix2 a b) < cfg0.N := by rw [hp]; exact lt_of_lt_of_eq (by omega) N_0.symm
  have hl : Value.loc7Of (ix2 a b) = ix2 ⟨a.val % 1024, by omega⟩ ⟨b.val % 1024, by omega⟩ := Shape.idx_ext₂ rfl rfl
  unfold Value.G7
  rw [dif_pos hN, ← Value.outsAt0_sweep m c _ hN, hl]
  refine (out_apply m c _ hN _ _).trans ?_
  have hr : row (Value.pt7Of (ix2 a b)) ⟨a.val % 1024, by omega⟩ = a := Fin.ext (by
    show Value.pt7Of (ix2 a b) % 16 * 1024 + a.val % 1024 = a.val
    omega)
  have hq : Value.pt7Of (ix2 a b) / 16 = b.val / 1024 := by omega
  rw [hr, hq]
  rfl

/-- What point `n` stores of side cast 1: its slab. -/
theorem side8_apply (n : ℕ) (hn : n < cfg0.N) (r : Fin 176) (q : Fin 2048) :
    ((outsAt0 m c n hn).2.1 (ix2 r q) : EReal) = arg4 m c (ix2 (slab3 ⟨n, hn⟩ r) q) := by
  by_cases h0 : n % 16 = 0
  · have e := outs_head m c ⟨n, hn⟩ h0
    dsimp only at e
    rw [e]
    exact (pay4_apply _ r q).trans (blk3 m c ⟨n, hn⟩ r q)
  · have e := outs_tail m c ⟨n, hn⟩ h0
    dsimp only at e
    rw [e]
    exact (pay4_apply _ r q).trans (blk3 m c ⟨n, hn⟩ r q)

/-- Result 1 of the kernel, counted from 0, is its side weight. -/
theorem G8_eq : Value.G8 m c = arg4 m c := by
  funext i
  obtain ⟨a, b, rfl⟩ : ∃ (a : Fin 5632) (b : Fin 2048), i = ix2 a b := ⟨i 0, i 1, Shape.idx_ext₂ rfl rfl⟩
  have hp : Value.pt8Of (ix2 a b) = a.val / 176 := by
    show 1 * (a.val / 176 - 0) + 1 * (b.val / 2048 - 0) = _
    omega
  have hN : Value.pt8Of (ix2 a b) < cfg0.N := by rw [hp]; exact lt_of_lt_of_eq (by omega) N_0.symm
  have hl : Value.loc8Of (ix2 a b) = ix2 ⟨a.val % 176, by omega⟩ ⟨b.val % 2048, by omega⟩ := Shape.idx_ext₂ rfl rfl
  unfold Value.G8
  rw [dif_pos hN, ← Value.outsAt0_sweep m c _ hN, hl, side8_apply]
  refine congrArg _ (Shape.idx_ext₂ ?_ ?_)
  · show Value.pt8Of (ix2 a b) * 176 + a.val % 176 = a.val
    omega
  · show b.val % 2048 = b.val
    omega

/-- What point `n` stores of side cast 2: its slab. -/
theorem side9_apply (n : ℕ) (hn : n < cfg0.N) (r : Fin 32) (q : Fin 2048) :
    ((outsAt0 m c n hn).2.2.1 (ix2 r q) : EReal) = arg5 m c (ix2 (slab4 ⟨n, hn⟩ r) q) := by
  by_cases h0 : n % 16 = 0
  · have e := outs_head m c ⟨n, hn⟩ h0
    dsimp only at e
    rw [e]
    exact (pay5_apply _ r q).trans (blk4 m c ⟨n, hn⟩ r q)
  · have e := outs_tail m c ⟨n, hn⟩ h0
    dsimp only at e
    rw [e]
    exact (pay5_apply _ r q).trans (blk4 m c ⟨n, hn⟩ r q)

/-- Result 2 of the kernel, counted from 0, is its side weight. -/
theorem G9_eq : Value.G9 m c = arg5 m c := by
  funext i
  obtain ⟨a, b, rfl⟩ : ∃ (a : Fin 1024) (b : Fin 2048), i = ix2 a b := ⟨i 0, i 1, Shape.idx_ext₂ rfl rfl⟩
  have hp : Value.pt9Of (ix2 a b) = a.val / 32 := by
    show 1 * (a.val / 32 - 0) + 1 * (b.val / 2048 - 0) = _
    omega
  have hN : Value.pt9Of (ix2 a b) < cfg0.N := by rw [hp]; exact lt_of_lt_of_eq (by omega) N_0.symm
  have hl : Value.loc9Of (ix2 a b) = ix2 ⟨a.val % 32, by omega⟩ ⟨b.val % 2048, by omega⟩ := Shape.idx_ext₂ rfl rfl
  unfold Value.G9
  rw [dif_pos hN, ← Value.outsAt0_sweep m c _ hN, hl, side9_apply]
  refine congrArg _ (Shape.idx_ext₂ ?_ ?_)
  · show Value.pt9Of (ix2 a b) * 32 + a.val % 32 = a.val
    omega
  · show b.val % 2048 = b.val
    omega

/-- What point `n` stores of side cast 3: its slab. -/
theorem side10_apply (n : ℕ) (hn : n < cfg0.N) (r : Fin 32) (q : Fin 2048) :
    ((outsAt0 m c n hn).2.2.2.1 (ix2 r q) : EReal) = arg6 m c (ix2 (slab4 ⟨n, hn⟩ r) q) := by
  by_cases h0 : n % 16 = 0
  · have e := outs_head m c ⟨n, hn⟩ h0
    dsimp only at e
    rw [e]
    exact (pay6_apply _ r q).trans (blk5 m c ⟨n, hn⟩ r q)
  · have e := outs_tail m c ⟨n, hn⟩ h0
    dsimp only at e
    rw [e]
    exact (pay6_apply _ r q).trans (blk5 m c ⟨n, hn⟩ r q)

/-- Result 3 of the kernel, counted from 0, is its side weight. -/
theorem G10_eq : Value.G10 m c = arg6 m c := by
  funext i
  obtain ⟨a, b, rfl⟩ : ∃ (a : Fin 1024) (b : Fin 2048), i = ix2 a b := ⟨i 0, i 1, Shape.idx_ext₂ rfl rfl⟩
  have hp : Value.pt10Of (ix2 a b) = a.val / 32 := by
    show 1 * (a.val / 32 - 0) + 1 * (b.val / 2048 - 0) = _
    omega
  have hN : Value.pt10Of (ix2 a b) < cfg0.N := by rw [hp]; exact lt_of_lt_of_eq (by omega) N_0.symm
  have hl : Value.loc10Of (ix2 a b) = ix2 ⟨a.val % 32, by omega⟩ ⟨b.val % 2048, by omega⟩ := Shape.idx_ext₂ rfl rfl
  unfold Value.G10
  rw [dif_pos hN, ← Value.outsAt0_sweep m c _ hN, hl, side10_apply]
  refine congrArg _ (Shape.idx_ext₂ ?_ ?_)
  · show Value.pt10Of (ix2 a b) * 32 + a.val % 32 = a.val
    omega
  · show b.val % 2048 = b.val
    omega

/-- What point `n` stores of side cast 4: its slab. -/
theorem side11_apply (n : ℕ) (hn : n < cfg0.N) (r : Fin 64) (q : Fin 2048) :
    ((outsAt0 m c n hn).2.2.2.2.1 (ix2 r q) : EReal) = arg7 m c (ix2 (slab6 ⟨n, hn⟩ r) q) := by
  by_cases h0 : n % 16 = 0
  · have e := outs_head m c ⟨n, hn⟩ h0
    dsimp only at e
    rw [e]
    exact (pay7_apply _ r q).trans (blk6 m c ⟨n, hn⟩ r q)
  · have e := outs_tail m c ⟨n, hn⟩ h0
    dsimp only at e
    rw [e]
    exact (pay7_apply _ r q).trans (blk6 m c ⟨n, hn⟩ r q)

/-- Result 4 of the kernel, counted from 0, is its side weight. -/
theorem G11_eq : Value.G11 m c = arg7 m c := by
  funext i
  obtain ⟨a, b, rfl⟩ : ∃ (a : Fin 2048) (b : Fin 2048), i = ix2 a b := ⟨i 0, i 1, Shape.idx_ext₂ rfl rfl⟩
  have hp : Value.pt11Of (ix2 a b) = a.val / 64 := by
    show 1 * (a.val / 64 - 0) + 1 * (b.val / 2048 - 0) = _
    omega
  have hN : Value.pt11Of (ix2 a b) < cfg0.N := by rw [hp]; exact lt_of_lt_of_eq (by omega) N_0.symm
  have hl : Value.loc11Of (ix2 a b) = ix2 ⟨a.val % 64, by omega⟩ ⟨b.val % 2048, by omega⟩ := Shape.idx_ext₂ rfl rfl
  unfold Value.G11
  rw [dif_pos hN, ← Value.outsAt0_sweep m c _ hN, hl, side11_apply]
  refine congrArg _ (Shape.idx_ext₂ ?_ ?_)
  · show Value.pt11Of (ix2 a b) * 64 + a.val % 64 = a.val
    omega
  · show b.val % 2048 = b.val
    omega

/-- The tiled projection with its norm and the reference's leave the same arrays, over the extended reals. -/
theorem algebraic : Cert.algebraic_Kernel5Ideal_Reference5Ideal := fun m ρ m' ρ' _ hag =>
  ⟨fun c => Value.G7 m c, fun c => Value.G8 m c, fun c => Value.G9 m c, fun c => Value.G10 m c, fun c => Value.G11 m c, Value.run m ρ,
    (θ_run _ _ _).mono (fun _ h c => ⟨(h c).1.trans (by
    obtain ⟨h0, h1, h2, h3, h4, h5, h6, h7⟩ := hag c
    rw [h0, h1, h2, h3]
    refine Eq.trans ?_ (G7_eq m c).symm
    funext i
    idx_vars i
    unfold spec specAt headAt projAt gain Facts.rms hcol wcol
    pointwise
    rename_i i0 i1
    by_cases hb : i1.val < 1024
    · have e1 : i1.val / 1024 = 0 := by omega
      have e2 : i1.val % 1024 = i1.val := by omega
      have e3 : ∀ n, 3072 + (0 % 2 * 1024 + n) = 3072 + n := fun n => by omega
      simp only [dif_pos hb, e1, e2, e3, if_true]
    · have e1 : i1.val / 1024 = 1 := by omega
      have e2 : i1.val % 1024 = i1.val - 1024 := by omega
      have e3 : ∀ n, 3072 + (1 % 2 * 1024 + n) = 4096 + n := fun n => by omega
      simp only [dif_neg hb, e1, e2, e3, one_ne_zero, if_false]),
    ((h c).2.1).trans (by
    obtain ⟨h0, h1, h2, h3, h4, h5, h6, h7⟩ := hag c
    rw [h4]
    refine Eq.trans ?_ (G8_eq m c).symm
    funext i
    idx_vars i
    pointwise),
    ((h c).2.2.1).trans (by
    obtain ⟨h0, h1, h2, h3, h4, h5, h6, h7⟩ := hag c
    rw [h5]
    refine Eq.trans ?_ (G9_eq m c).symm
    funext i
    idx_vars i
    pointwise),
    ((h c).2.2.2.1).trans (by
    obtain ⟨h0, h1, h2, h3, h4, h5, h6, h7⟩ := hag c
    rw [h6]
    refine Eq.trans ?_ (G10_eq m c).symm
    funext i
    idx_vars i
    pointwise),
    ((h c).2.2.2.2.1).trans (by
    obtain ⟨h0, h1, h2, h3, h4, h5, h6, h7⟩ := hag c
    rw [h7]
    refine Eq.trans ?_ (G11_eq m c).symm
    funext i
    idx_vars i
    pointwise),
    (h c).2.2.2.2.2⟩) (Cert.Reference5Ideal.Value.run m' ρ')⟩

end Cert.Proof.InProjHeads
-- ==== Proof.InProjGate.lean ====
/-
  The input projection's gate columns (`Kernel6Ideal`) and the weight cast beside it. The kernel takes the logistic
  function as half a hyperbolic tangent plus a half; the reference `Reference6Ideal` takes it as a quotient. Both leave
  the same arrays, over the extended reals, at the infinite scores too.
-/
module

public import proofs.«01_k».proof.Defs
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import proofs.«01_k».proof.Proof.Facts
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.Proof.InProjGate

open Cert.Kernel6Ideal Cert.Kernel6Ideal.Gen

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- Argument 0, as numbers. -/
abbrev arg0 : S16384x2048.Idx → EReal := m ((c : Thread nD τ).loc main_arg0)

/-- Argument 1, as numbers. -/
abbrev arg1 : S2048x10240.Idx → EReal := m ((c : Thread nD τ).loc main_arg1)

/-- Argument 2, as numbers. -/
abbrev arg2 : S4096.Idx → EReal := m ((c : Thread nD τ).loc main_arg2)

/-- Argument 3, as numbers. -/
abbrev arg3 : S2048x5632.Idx → EReal := m ((c : Thread nD τ).loc main_arg3)

/-- The bias as the region reads it: one row. -/
theorem V_bias (q : Fin 4096) : (V m c main_v0 (ix2 (0 : Fin 1) q) : EReal) = arg2 m c (Idealize.ShloMosaic.ix1 q) := by
  have e : V m c main_v0 = shapeCast S1x4096 (m ((c : Thread nD τ).loc main_arg2)) shapeCasts_S4096_S1x4096 := by
    unfold V hostOps0
    after_results
    rfl
  rw [e]
  exact ValueIdx.shapeCast_a_1a_apply (arg2 m c) _ _ _

/-- At the head of a column tile the product reads the weight tile just cast. -/
theorem out0_A_4_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S32x5632 .f32) (harg5 : arg5.IsWhole) (arg6 : Memref sig .tc .vmem S1024x1024 .bf16) (harg6 : arg6.IsWhole) (arg7 : Memref sig .tc .vmem S32x5632 .bf16) (harg7 : arg7.IsWhole) (arg8 : Memref sig .tc .vmem S2048x1024 .bf16) (harg8 : arg8.IsWhole) (hc0 : cond0_0 i)
    (x0 : Vec Ideal S1024x2048 .bf16) (x1 : Vec Ideal S2048x1024 .f32) (x2 : Vec Ideal S1x1024 .f32) (x3 : Vec Ideal S32x5632 .f32) :
    out0_A_4 (F := Ideal) c i arg2 harg2 arg3 harg3 arg4 harg4 arg5 harg5 arg6 harg6 arg7 harg7 arg8 harg8 hc0 x0 x1 x2 x3 = k0_pay3 x0 (k0_pay1 x1) x2 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz, View.readCov_unit_zero (S := S2048x1024) _ hz]
  simp only [View.readAt_eq_ld, harg2.read_unread, harg3.read_unread, harg4.read_unread, harg5.read_unread, harg6.read_unread, harg7.read_unread, harg8.read_unread, View.ld_unit_zero (S := S1024x2048) hz, View.ld_unit_zero (S := S2048x1024) hz, View.ld_unit_zero (S := S1x1024) hz, View.ld_unit_zero (S := S32x5632) hz]

/-- At the head of a column tile the side cast writes its slab. -/
theorem out0_A_5_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S32x5632 .f32) (harg5 : arg5.IsWhole) (arg6 : Memref sig .tc .vmem S1024x1024 .bf16) (harg6 : arg6.IsWhole) (arg7 : Memref sig .tc .vmem S32x5632 .bf16) (harg7 : arg7.IsWhole) (arg8 : Memref sig .tc .vmem S2048x1024 .bf16) (harg8 : arg8.IsWhole) (hc0 : cond0_0 i)
    (x0 : Vec Ideal S1024x2048 .bf16) (x1 : Vec Ideal S2048x1024 .f32) (x2 : Vec Ideal S1x1024 .f32) (x3 : Vec Ideal S32x5632 .f32) :
    out0_A_5 (F := Ideal) c i arg2 harg2 arg3 harg3 arg4 harg4 arg5 harg5 arg6 harg6 arg7 harg7 arg8 harg8 hc0 x0 x1 x2 x3 = k0_pay2 x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, View.ld_unit_zero (S := S1024x2048) hz, View.ld_unit_zero (S := S2048x1024) hz, View.ld_unit_zero (S := S1x1024) hz, View.ld_unit_zero (S := S32x5632) hz]

/-- At the head of a column tile the scratch ends at the weight tile, cast. -/
theorem sout0_A_0_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S32x5632 .f32) (harg5 : arg5.IsWhole) (arg6 : Memref sig .tc .vmem S1024x1024 .bf16) (harg6 : arg6.IsWhole) (arg7 : Memref sig .tc .vmem S32x5632 .bf16) (harg7 : arg7.IsWhole) (arg8 : Memref sig .tc .vmem S2048x1024 .bf16) (harg8 : arg8.IsWhole) (hc0 : cond0_0 i)
    (x0 : Vec Ideal S1024x2048 .bf16) (x1 : Vec Ideal S2048x1024 .f32) (x2 : Vec Ideal S1x1024 .f32) (x3 : Vec Ideal S32x5632 .f32) :
    sout0_A_0 (F := Ideal) c i arg2 harg2 arg3 harg3 arg4 harg4 arg5 harg5 arg6 harg6 arg7 harg7 arg8 harg8 hc0 x0 x1 x2 x3 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  (try sl_unfold_words)
  rw [View.canon_unit_zero hz]
  simp only [View.readAt_eq_ld, harg2.read_unread, harg3.read_unread, harg4.read_unread, harg5.read_unread, harg6.read_unread, harg7.read_unread, harg8.read_unread, View.ld_unit_zero (S := S1024x2048) hz, View.ld_unit_zero (S := S2048x1024) hz, View.ld_unit_zero (S := S1x1024) hz, View.ld_unit_zero (S := S32x5632) hz]

/-- At a later point of a column tile the product reads the scratch as it was left. -/
theorem out0_B_4_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S32x5632 .f32) (harg5 : arg5.IsWhole) (arg6 : Memref sig .tc .vmem S1024x1024 .bf16) (harg6 : arg6.IsWhole) (arg7 : Memref sig .tc .vmem S32x5632 .bf16) (harg7 : arg7.IsWhole) (arg8 : Memref sig .tc .vmem S2048x1024 .bf16) (harg8 : arg8.IsWhole) (hc0 : ¬cond0_0 i)
    (x0 : Vec Ideal S1024x2048 .bf16) (x1 : Vec Ideal S2048x1024 .f32) (x2 : Vec Ideal S1x1024 .f32) (x3 : Vec Ideal S32x5632 .f32) (xs0 : Vec Ideal S2048x1024 .bf16) :
    out0_B_4 (F := Ideal) c i arg2 harg2 arg3 harg3 arg4 harg4 arg5 harg5 arg6 harg6 arg7 harg7 arg8 harg8 hc0 x0 x1 x2 x3 xs0 = k0_pay3 x0 xs0 x2 := by
  unfold out0_B_4
  rw [View.read_writes_eq_canon _ _ _ (cover0_B_4 c i arg2 harg2 arg3 harg3 arg4 harg4 arg5 harg5 arg6 harg6 arg7 harg7 arg8 harg8 hc0 x0 x1 x2 x3 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, View.ld_unit_zero (S := S1024x2048) hz, View.ld_unit_zero (S := S2048x1024) hz, View.ld_unit_zero (S := S1x1024) hz, View.ld_unit_zero (S := S32x5632) hz]

/-- At a later point of a column tile the side cast writes its slab. -/
theorem out0_B_5_eq (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S32x5632 .f32) (harg5 : arg5.IsWhole) (arg6 : Memref sig .tc .vmem S1024x1024 .bf16) (harg6 : arg6.IsWhole) (arg7 : Memref sig .tc .vmem S32x5632 .bf16) (harg7 : arg7.IsWhole) (arg8 : Memref sig .tc .vmem S2048x1024 .bf16) (harg8 : arg8.IsWhole) (hc0 : ¬cond0_0 i)
    (x0 : Vec Ideal S1024x2048 .bf16) (x1 : Vec Ideal S2048x1024 .f32) (x2 : Vec Ideal S1x1024 .f32) (x3 : Vec Ideal S32x5632 .f32) (xs0 : Vec Ideal S2048x1024 .bf16) :
    out0_B_5 (F := Ideal) c i arg2 harg2 arg3 harg3 arg4 harg4 arg5 harg5 arg6 harg6 arg7 harg7 arg8 harg8 hc0 x0 x1 x2 x3 xs0 = k0_pay2 x3 := by
  unfold out0_B_5
  rw [View.read_writes_eq_canon _ _ _ (cover0_B_5 c i arg2 harg2 arg3 harg3 arg4 harg4 arg5 harg5 arg6 harg6 arg7 harg7 arg8 harg8 hc0 x0 x1 x2 x3 xs0)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, View.ld_unit_zero (S := S1024x2048) hz, View.ld_unit_zero (S := S2048x1024) hz, View.ld_unit_zero (S := S1x1024) hz, View.ld_unit_zero (S := S32x5632) hz]

/-- A point at the head of a column tile: the cast weight tile goes to the scratch and is what the product reads. -/
theorem outs_head (t : Fin cfg0.N) (h0 : t.val % 16 = 0) : outsAt0 m c t.val t.isLt =
    (k0_pay3 (iblk m c 0 t) (k0_pay1 (iblk m c 1 t)) (iblk m c 2 t), k0_pay2 (iblk m c 3 t), k0_pay1 (iblk m c 1 t)) := by
  rw [outsAt0_A m c t h0, out0_A_4_eq, out0_A_5_eq, sout0_A_0_eq]

/-- A later point of a column tile: the product reads the scratch as the point before left it. -/
theorem outs_tail (t : Fin cfg0.N) (h0 : ¬t.val % 16 = 0) : outsAt0 m c t.val t.isLt =
    (k0_pay3 (iblk m c 0 t) (outsAt0 m c (t.val - 1) (Nat.lt_of_le_of_lt (Nat.sub_le _ _) t.isLt)).2.2 (iblk m c 2 t),
      k0_pay2 (iblk m c 3 t), (outsAt0 m c (t.val - 1) (Nat.lt_of_le_of_lt (Nat.sub_le _ _) t.isLt)).2.2) := by
  rw [outsAt0_B m c t h0, out0_B_4_eq, out0_B_5_eq]
  rfl

/-- The index maps, decided over the grid: point `t` is row tile `t % 16` of column tile `t / 16`; the four column tiles
    are blocks 6, 7, 8 and 9 of the weight; the side cast works slab by slab. -/
theorem idx_facts : ∀ t : Fin cfg0.N, win0_0.index t = ![t.val % 16, 0]
    ∧ win0_1.index t = ![0, t.val / 16 + 6] ∧ win0_2.index t = ![0, t.val / 16] ∧ win0_3.index t = ![t.val, 0] :=
  (by decide +kernel : ∀ t : Fin grid0.N, _)

theorem lt_N (t : Fin cfg0.N) : t.val < 64 := lt_of_lt_of_eq t.isLt N_0

/-- Row `r` of point `n`'s row tile, as a row of the array. -/
def row (n : ℕ) (r : Fin 1024) : Fin 16384 := ⟨n % 16 * 1024 + r.val, by omega⟩

/-- Column `q` of column tile `j`, as a column of the result. -/
def col (j : ℕ) (q : Fin 1024) : Fin 4096 := ⟨(j % 4) * 1024 + q.val, by omega⟩

/-- A column of the result, as a column of the weight. -/
def wcol (b : Fin 4096) : Fin 10240 := ⟨6144 + b.val, by omega⟩

/-- Row `r` of slab `t`, as a row of the side weight. -/
def slab (t : Fin cfg0.N) (r : Fin 32) : Fin 2048 := ⟨t.val * 32 + r.val, by have := lt_N t; omega⟩

theorem blk0 (t : Fin cfg0.N) (r : Fin 1024) (k : Fin 2048) :
    (iblk m c 0 t (ix2 r k) : EReal) = arg0 m c (ix2 (row t.val r) k) := by
  obtain ⟨h, -⟩ := idx_facts t
  show V m c main_arg0 (((cfg0.win 0).blk t).view.emb (ix2 r k)) = _
  rw [V_main_arg0]
  refine congrArg _ (Shape.idx_ext₂ ?_ ?_)
  · show win0_0.index t (0 : Fin 2) * 1024 + 1 * r.val = t.val % 16 * 1024 + r.val; rw [h]; simp
  · show win0_0.index t (1 : Fin 2) * 2048 + 1 * k.val = k.val; rw [h]; simp

theorem blk1 (t : Fin cfg0.N) (r : Fin 2048) (k : Fin 1024) :
    (iblk m c 1 t (ix2 r k) : EReal) = arg1 m c (ix2 r (wcol (col (t.val / 16) k))) := by
  have hN := lt_N t
  obtain ⟨-, h, -⟩ := idx_facts t
  show V m c main_arg1 (((cfg0.win 1).blk t).view.emb (ix2 r k)) = _
  rw [V_main_arg1]
  refine congrArg _ (Shape.idx_ext₂ ?_ ?_)
  · show win0_1.index t (0 : Fin 2) * 2048 + 1 * r.val = r.val; rw [h]; simp
  · show win0_1.index t (1 : Fin 2) * 1024 + 1 * k.val = 6144 + (t.val / 16 % 4 * 1024 + k.val); rw [h]; simp; omega

theorem blk3 (t : Fin cfg0.N) (r : Fin 32) (k : Fin 5632) :
    (iblk m c 3 t (ix2 r k) : EReal) = arg3 m c (ix2 (slab t r) k) := by
  obtain ⟨-, -, -, h⟩ := idx_facts t
  show V m c main_arg3 (((cfg0.win 3).blk t).view.emb (ix2 r k)) = _
  rw [V_main_arg3]
  refine congrArg _ (Shape.idx_ext₂ ?_ ?_)
  · show win0_3.index t (0 : Fin 2) * 32 + 1 * r.val = t.val * 32 + r.val; rw [h]; simp
  · show win0_3.index t (1 : Fin 2) * 5632 + 1 * k.val = k.val; rw [h]; simp

theorem blk2 (t : Fin cfg0.N) (k : Fin 1024) :
    (iblk m c 2 t (ix2 (0 : Fin 1) k) : EReal) = arg2 m c (Idealize.ShloMosaic.ix1 (col (t.val / 16) k)) := by
  have hN := lt_N t
  obtain ⟨-, -, h, -⟩ := idx_facts t
  rw [← V_bias]
  show V m c main_v0 (((cfg0.win 2).blk t).view.emb (ix2 (0 : Fin 1) k)) = _
  refine congrArg _ (Shape.idx_ext₂ ?_ ?_)
  · show win0_2.index t (0 : Fin 2) * 1 + 1 * 0 = 0; rw [h]; simp
  · show win0_2.index t (1 : Fin 2) * 1024 + 1 * k.val = t.val / 16 % 4 * 1024 + k.val; rw [h]; simp; omega

/-- The cast weight tile, at an index. -/
theorem pay1_apply (x : Vec Ideal S2048x1024 .f32) (k : Fin 2048) (q : Fin 1024) :
    (k0_pay1 (F := Ideal) x (ix2 k q) : EReal) = x (ix2 k q) := by
  unfold_payloads
  pointwise

/-- The cast slab, at an index. -/
theorem pay2_apply (x : Vec Ideal S32x5632 .f32) (k : Fin 32) (q : Fin 5632) :
    (k0_pay2 (F := Ideal) x (ix2 k q) : EReal) = x (ix2 k q) := by
  unfold_payloads
  pointwise

/-- The stored gate, at an index: the logistic function of the product plus the bias. -/
theorem pay3_apply (x : Vec Ideal S1024x2048 .bf16) (w : Vec Ideal S2048x1024 .bf16) (b : Vec Ideal S1x1024 .f32) (r q : Fin 1024) :
    (k0_pay3 (F := Ideal) x w b (ix2 r q) : EReal)
      = Facts.sig ((∑ k : Fin 2048, (x (ix2 r k) : EReal) * w (ix2 k q)) + b (ix2 (0 : Fin 1) q)) := by
  rw [← Facts.half_tanh]
  unfold_payloads
  pointwise

/-- After point `n` the scratch holds column tile `n / 16` of the weight. -/
theorem scratch (n : ℕ) (hn : n < cfg0.N) (k : Fin 2048) (q : Fin 1024) :
    ((outsAt0 m c n hn).2.2 (ix2 k q) : EReal) = arg1 m c (ix2 k (wcol (col (n / 16) q))) := by
  induction n with
  | zero =>
    have e := outs_head m c ⟨0, hn⟩ (by rfl)
    dsimp only at e
    rw [e]
    exact (pay1_apply _ k q).trans (blk1 m c ⟨0, hn⟩ k q)
  | succ n ih =>
    by_cases h0 : (n + 1) % 16 = 0
    · have e := outs_head m c ⟨n + 1, hn⟩ h0
      dsimp only at e
      rw [e]
      exact (pay1_apply _ k q).trans (blk1 m c ⟨n + 1, hn⟩ k q)
    · have e := outs_tail m c ⟨n + 1, hn⟩ h0
      dsimp only at e
      rw [e]
      refine (ih (Nat.lt_of_succ_lt hn)).trans ?_
      rw [show (n + 1) / 16 = n / 16 by omega]

/-- The gate at row `a` and column `b`: the logistic function of the projection plus the bias. -/
def specAt (h : S16384x2048.Idx → EReal) (w : S2048x10240.Idx → EReal) (bias : S4096.Idx → EReal) (a : Fin 16384) (b : Fin 4096) : EReal :=
  Facts.sig ((∑ k : Fin 2048, h (ix2 a k) * w (ix2 k (wcol b))) + bias (Idealize.ShloMosaic.ix1 b))

/-- The gate as an array. -/
def spec (h : S16384x2048.Idx → EReal) (w : S2048x10240.Idx → EReal) (bias : S4096.Idx → EReal) (i : S16384x4096.Idx) : EReal :=
  specAt h w bias (i 0) (i 1)

/-- What point `n` stores of the gate. -/
theorem out_apply (n : ℕ) (hn : n < cfg0.N) (r q : Fin 1024) : ((outsAt0 m c n hn).1 (ix2 r q) : EReal)
      = specAt (arg0 m c) (arg1 m c) (arg2 m c) (row n r) (col (n / 16) q) := by
  unfold specAt
  by_cases h0 : n % 16 = 0
  · have e := outs_head m c ⟨n, hn⟩ h0
    dsimp only at e
    rw [e]
    refine (pay3_apply _ _ _ r q).trans (congrArg Facts.sig (congrArg₂ (· + ·) (Finset.sum_congr rfl fun k _ => ?_) (blk2 m c ⟨n, hn⟩ q)))
    rw [blk0, pay1_apply, blk1]
  · have e := outs_tail m c ⟨n, hn⟩ h0
    dsimp only at e
    rw [e]
    refine (pay3_apply _ _ _ r q).trans (congrArg Facts.sig (congrArg₂ (· + ·) (Finset.sum_congr rfl fun k _ => ?_) (blk2 m c ⟨n, hn⟩ q)))
    rw [blk0, scratch, show (n - 1) / 16 = n / 16 by omega]

/-- What point `n` stores of the side cast: its slab. -/
theorem side_apply (n : ℕ) (hn : n < cfg0.N) (r : Fin 32) (q : Fin 5632) :
    ((outsAt0 m c n hn).2.1 (ix2 r q) : EReal) = arg3 m c (ix2 (slab ⟨n, hn⟩ r) q) := by
  by_cases h0 : n % 16 = 0
  · have e := outs_head m c ⟨n, hn⟩ h0
    dsimp only at e
    rw [e]
    exact (pay2_apply _ r q).trans (blk3 m c ⟨n, hn⟩ r q)
  · have e := outs_tail m c ⟨n, hn⟩ h0
    dsimp only at e
    rw [e]
    exact (pay2_apply _ r q).trans (blk3 m c ⟨n, hn⟩ r q)

/-- The kernel's first result is the gate. -/
theorem G4_eq : Value.G4 m c = spec (arg0 m c) (arg1 m c) (arg2 m c) := by
  funext i
  obtain ⟨a, b, rfl⟩ : ∃ (a : Fin 16384) (b : Fin 4096), i = ix2 a b := ⟨i 0, i 1, Shape.idx_ext₂ rfl rfl⟩
  have hp : Value.pt4Of (ix2 a b) = a.val / 1024 + 16 * (b.val / 1024) := by
    show 1 * (a.val / 1024 - 0) + 16 * (b.val / 1024 - 0) = _
    omega
  have hN : Value.pt4Of (ix2 a b) < cfg0.N := by rw [hp]; exact lt_of_lt_of_eq (by omega) N_0.symm
  have hl : Value.loc4Of (ix2 a b) = ix2 ⟨a.val % 1024, by omega⟩ ⟨b.val % 1024, by omega⟩ := Shape.idx_ext₂ rfl rfl
  unfold Value.G4
  rw [dif_pos hN, ← Value.outsAt0_sweep m c _ hN, hl]
  refine (out_apply m c _ hN _ _).trans ?_
  have hr : row (Value.pt4Of (ix2 a b)) ⟨a.val % 1024, by omega⟩ = a := Fin.ext (by
    show Value.pt4Of (ix2 a b) % 16 * 1024 + a.val % 1024 = a.val
    omega)
  have hq : col (Value.pt4Of (ix2 a b) / 16) ⟨b.val % 1024, by omega⟩ = b := Fin.ext (by
    show Value.pt4Of (ix2 a b) / 16 % 4 * 1024 + b.val % 1024 = b.val
    omega)
  rw [hr, hq]
  rfl

/-- The kernel's second result is the side weight. -/
theorem G5_eq : Value.G5 m c = arg3 m c := by
  funext i
  obtain ⟨a, b, rfl⟩ : ∃ (a : Fin 2048) (b : Fin 5632), i = ix2 a b := ⟨i 0, i 1, Shape.idx_ext₂ rfl rfl⟩
  have hp : Value.pt5Of (ix2 a b) = a.val / 32 := by
    show 1 * (a.val / 32 - 0) + 1 * (b.val / 5632 - 0) = _
    omega
  have hN : Value.pt5Of (ix2 a b) < cfg0.N := by rw [hp]; exact lt_of_lt_of_eq (by omega) N_0.symm
  have hl : Value.loc5Of (ix2 a b) = ix2 ⟨a.val % 32, by omega⟩ ⟨b.val % 5632, by omega⟩ := Shape.idx_ext₂ rfl rfl
  unfold Value.G5
  rw [dif_pos hN, ← Value.outsAt0_sweep m c _ hN, hl, side_apply]
  refine congrArg _ (Shape.idx_ext₂ ?_ ?_)
  · show Value.pt5Of (ix2 a b) * 32 + a.val % 32 = a.val
    omega
  · show b.val % 5632 = b.val
    omega

/-- The tiled gate projection and the reference's leave the same arrays, over the extended reals. -/
theorem algebraic : Cert.algebraic_Kernel6Ideal_Reference6Ideal := fun m ρ m' ρ' _ hag =>
  ⟨fun c => Value.G4 m c, fun c => Value.G5 m c, Value.run m ρ, (θ_run _ _ _).mono (fun _ h c => ⟨(h c).1.trans (by
    obtain ⟨h0, h1, h2, h3⟩ := hag c
    rw [h0, h1, h2]
    refine Eq.trans ?_ (G4_eq m c).symm
    funext i
    idx_vars i
    unfold spec specAt wcol Facts.sig
    pointwise), (h c).2.1.trans (by
    obtain ⟨h0, h1, h2, h3⟩ := hag c
    rw [h3]
    refine Eq.trans ?_ (G5_eq m c).symm
    funext i
    idx_vars i
    pointwise), (h c).2.2⟩) (Cert.Reference6Ideal.Value.run m' ρ')⟩

end Cert.Proof.InProjGate
-- ==== Proof.Merge.lean ====
/-
  The merge of the two attention branches: what the tiled kernel `Kernel7Ideal` leaves in its result, read index by
  index at the extended reals, is what the reference `Reference7Ideal` leaves in its own.
-/
module

public import proofs.«01_k».proof.Defs
public import proofs.«01_k».proof.Proof.Gen.Kernel7Ideal.Value
public import proofs.«01_k».proof.Proof.Gen.Reference7Ideal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Merge

open Cert.Kernel7Ideal Cert.Kernel7Ideal.Gen

/-- The merged row: the residual entry plus the output projection of the two gated branch projections. -/
def spec (x : S16384x2048.Idx → EReal) (sb ca : S16384x1024.Idx → EReal) (gate : S16384x4096.Idx → EReal)
    (wsb wca : S1024x2048.Idx → EReal) (wout : S2048x2048.Idx → EReal) (i : S16384x2048.Idx) : EReal :=
  x i + ∑ k : Fin 2048,
    (gate (ix2 (i 0) ⟨k.val, by omega⟩) * (∑ a : Fin 1024, sb (ix2 (i 0) a) * wsb (ix2 a k))
      + gate (ix2 (i 0) ⟨2048 + k.val, by omega⟩) * (∑ a : Fin 1024, ca (ix2 (i 0) a) * wca (ix2 a k)))
      * wout (ix2 k (i 1))

variable (m : (ℓ : Loc nD τ sig) → Buf (Elt Ideal) ℓ) (ρ : Dev nD → PrngReg)

/-- What the body stores for one block of rows, at an index of the block. -/
theorem out_apply (x0 : Vec Ideal S512x2048 .f32) (x1 x2 : Vec Ideal S512x1024 .bf16) (x3 x4 : Vec Ideal S512x2048 .bf16)
    (x5 x6 : Vec Ideal S1024x2048 .bf16) (x7 : Vec Ideal S2048x2048 .bf16) (r : Fin 512) (q : Fin 2048) :
    out0_8 (F := Ideal) x0 x1 x2 x3 x4 x5 x6 x7 (ix2 r q) = (x0 (ix2 r q) : EReal) + ∑ k : Fin 2048,
      ((x3 (ix2 r k) : EReal) * (∑ a : Fin 1024, (x1 (ix2 r a) : EReal) * x5 (ix2 a k))
        + (x4 (ix2 r k) : EReal) * (∑ a : Fin 1024, (x2 (ix2 r a) : EReal) * x6 (ix2 a k))) * x7 (ix2 k q) := by
  have hz : (![0, 0] : Fin 2 → Nat) = fun _ => 0 := funext fun a => by fin_cases a <;> rfl
  unfold out0_8
  rw [View.canon_unit_zero hz]
  unfold_payloads
  pointwise [r0_0, r0_1, r0_2, r0_3]

/-- The index maps, decided over the grid: point `t` works on row block `t`, the two gates are the two column halves. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![t.val, 0] :=
  (by decide +kernel : ∀ t : Fin grid0.N, _)

theorem lt_N (t : Fin cfg0.N) : t.val < 32 := lt_of_lt_of_eq t.isLt N_0

/-- Row `r` of block `t`, as a row of the array. -/
def row (t : Fin cfg0.N) (r : Fin 512) : Fin 16384 := ⟨t.val * 512 + r.val, by have := lt_N t; omega⟩

variable (c : Dev nD) (t : Fin cfg0.N)

theorem blk0 (r : Fin 512) (k : Fin 2048) :
    iblk m c 0 t (ix2 r k) = m ((c : Thread nD τ).loc main_arg0) (ix2 (row t r) k) := by
  obtain ⟨h, -⟩ := idx_facts t
  show m ((c : Thread nD τ).loc main_arg0) (((cfg0.win 0).blk t).view.emb (ix2 r k)) = _
  refine congrArg _ (Shape.idx_ext₂ ?_ ?_)
  · show win0_0.index t (0 : Fin 2) * 512 + 1 * r.val = t.val * 512 + r.val; rw [h]; simp
  · show win0_0.index t (1 : Fin 2) * 2048 + 1 * k.val = k.val; rw [h]; simp

theorem blk1 (r : Fin 512) (k : Fin 1024) :
    iblk m c 1 t (ix2 r k) = m ((c : Thread nD τ).loc main_arg1) (ix2 (row t r) k) := by
  obtain ⟨-, h, -⟩ := idx_facts t
  show m ((c : Thread nD τ).loc main_arg1) (((cfg0.win 1).blk t).view.emb (ix2 r k)) = _
  refine congrArg _ (Shape.idx_ext₂ ?_ ?_)
  · show win0_1.index t (0 : Fin 2) * 512 + 1 * r.val = t.val * 512 + r.val; rw [h]; simp
  · show win0_1.index t (1 : Fin 2) * 1024 + 1 * k.val = k.val; rw [h]; simp

theorem blk2 (r : Fin 512) (k : Fin 1024) :
    iblk m c 2 t (ix2 r k) = m ((c : Thread nD τ).loc main_arg2) (ix2 (row t r) k) := by
  obtain ⟨-, -, h, -⟩ := idx_facts t
  show m ((c : Thread nD τ).loc main_arg2) (((cfg0.win 2).blk t).view.emb (ix2 r k)) = _
  refine congrArg _ (Shape.idx_ext₂ ?_ ?_)
  · show win0_2.index t (0 : Fin 2) * 512 + 1 * r.val = t.val * 512 + r.val; rw [h]; simp
  · show win0_2.index t (1 : Fin 2) * 1024 + 1 * k.val = k.val; rw [h]; simp

theorem blk3 (r : Fin 512) (k : Fin 2048) :
    iblk m c 3 t (ix2 r k) = m ((c : Thread nD τ).loc main_arg3) (ix2 (row t r) ⟨k.val, by omega⟩) := by
  obtain ⟨-, -, -, h, -⟩ := idx_facts t
  show m ((c : Thread nD τ).loc main_arg3) (((cfg0.win 3).blk t).view.emb (ix2 r k)) = _
  refine congrArg _ (Shape.idx_ext₂ ?_ ?_)
  · show win0_3.index t (0 : Fin 2) * 512 + 1 * r.val = t.val * 512 + r.val; rw [h]; simp
  · show win0_3.index t (1 : Fin 2) * 2048 + 1 * k.val = k.val; rw [h]; simp

theorem blk4 (r : Fin 512) (k : Fin 2048) :
    iblk m c 4 t (ix2 r k) = m ((c : Thread nD τ).loc main_arg3) (ix2 (row t r) ⟨2048 + k.val, by omega⟩) := by
  obtain ⟨-, -, -, -, h, -⟩ := idx_facts t
  show m ((c : Thread nD τ).loc main_arg3) (((cfg0.win 4).blk t).view.emb (ix2 r k)) = _
  refine congrArg _ (Shape.idx_ext₂ ?_ ?_)
  · show win0_4.index t (0 : Fin 2) * 512 + 1 * r.val = t.val * 512 + r.val; rw [h]; simp
  · show win0_4.index t (1 : Fin 2) * 2048 + 1 * k.val = 2048 + k.val; rw [h]; simp

theorem blk5 (r : Fin 1024) (k : Fin 2048) :
    iblk m c 5 t (ix2 r k) = m ((c : Thread nD τ).loc main_arg4) (ix2 r k) := by
  obtain ⟨-, -, -, -, -, h, -⟩ := idx_facts t
  show m ((c : Thread nD τ).loc main_arg4) (((cfg0.win 5).blk t).view.emb (ix2 r k)) = _
  refine congrArg _ (Shape.idx_ext₂ ?_ ?_)
  · show win0_5.index t (0 : Fin 2) * 1024 + 1 * r.val = r.val; rw [h]; simp
  · show win0_5.index t (1 : Fin 2) * 2048 + 1 * k.val = k.val; rw [h]; simp

theorem blk6 (r : Fin 1024) (k : Fin 2048) :
    iblk m c 6 t (ix2 r k) = m ((c : Thread nD τ).loc main_arg5) (ix2 r k) := by
  obtain ⟨-, -, -, -, -, -, h, -⟩ := idx_facts t
  show m ((c : Thread nD τ).loc main_arg5) (((cfg0.win 6).blk t).view.emb (ix2 r k)) = _
  refine congrArg _ (Shape.idx_ext₂ ?_ ?_)
  · show win0_6.index t (0 : Fin 2) * 1024 + 1 * r.val = r.val; rw [h]; simp
  · show win0_6.index t (1 : Fin 2) * 2048 + 1 * k.val = k.val; rw [h]; simp

theorem blk7 (r : Fin 2048) (k : Fin 2048) :
    iblk m c 7 t (ix2 r k) = m ((c : Thread nD τ).loc main_arg6) (ix2 r k) := by
  obtain ⟨-, -, -, -, -, -, -, h, -⟩ := idx_facts t
  show m ((c : Thread nD τ).loc main_arg6) (((cfg0.win 7).blk t).view.emb (ix2 r k)) = _
  refine congrArg _ (Shape.idx_ext₂ ?_ ?_)
  · show win0_7.index t (0 : Fin 2) * 2048 + 1 * r.val = r.val; rw [h]; simp
  · show win0_7.index t (1 : Fin 2) * 2048 + 1 * k.val = k.val; rw [h]; simp

/-- The merged array as a function of the launch memory. -/
def G (c : Dev nD) : Buf (Elt Ideal) ((c : Thread nD τ).loc main_v0) :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is row block `t` of the merged array. -/
theorem flushed_eq : (dats m 0 c).flushed 8 t = ((cfg0.win 8).blk t).view.read (Elt Ideal) (G m c) := by
  rw [Value.flushed8]
  obtain ⟨-, -, -, -, -, -, -, -, h⟩ := idx_facts t
  funext y
  obtain ⟨r, q, rfl⟩ : ∃ (r : Fin 512) (q : Fin 2048), y = ix2 r q := ⟨y 0, y 1, Shape.idx_ext₂ rfl rfl⟩
  have he : ((cfg0.win 8).blk t).view.emb (ix2 r q) = ix2 (row t r) q := by
    refine Shape.idx_ext₂ ?_ ?_
    · show win0_8.index t (0 : Fin 2) * 512 + 1 * r.val = t.val * 512 + r.val; rw [h]; simp
    · show win0_8.index t (1 : Fin 2) * 2048 + 1 * q.val = q.val; rw [h]; simp
  show out0_8 _ _ _ _ _ _ _ _ (ix2 r q) = G m c (((cfg0.win 8).blk t).view.emb (ix2 r q))
  rw [he, out_apply]
  simp only [blk0, blk1, blk2, blk3, blk4, blk5, blk6, blk7]
  rfl

/-- An index of the result is in point `t`'s block iff its row is one of the block's 512. -/
theorem mem_blk (i : S16384x2048.Idx) :
    i ∈ ((cfg0.win 8).blk t).view.set ↔ ∀ a : Fin 2, win0_8.index t a * S512x2048.size a ≤ (i a).val
      ∧ (i a).val < win0_8.index t a * S512x2048.size a + S512x2048.size a := by
  show i ∈ ((View.whole main_v0).slice (win0_8.rect t)).set ↔ _
  rw [View.set_slice_whole, Rect.mem_set_unit]
  exact Iff.rfl

/-- The row blocks cover the result. -/
theorem cover (i : S16384x2048.Idx) :
    ∃ t : Fin cfg0.N, (cfg0.win 8).flush t = true ∧ i ∈ ((cfg0.win 8).blk t).view.set := by
  have h0 : (i 0 : Nat) < 16384 := (i 0).isLt
  have h1 : (i 1 : Nat) < 2048 := (i 1).isLt
  refine ⟨⟨(i 0).val / 512, lt_of_lt_of_eq (by omega) N_0.symm⟩, flush0_8 _, ?_⟩
  rw [mem_blk]
  obtain ⟨-, -, -, -, -, -, -, -, h⟩ := idx_facts ⟨(i 0).val / 512, lt_of_lt_of_eq (by omega) N_0.symm⟩
  rw [h]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- The kernel's result after the run is the merged array. -/
theorem final : (dats m 0 c).arrAt 8 cfg0.N = G m c :=
  (dats m 0 c).arrAt_eq_of_cover 8 (G m c) (fun t _ => flushed_eq m c t) cover

/-- The kernel's run, read: its result is the merged array, its arguments are unchanged. -/
theorem run_kernel : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

/-- The tiled merge and the reference's merge leave the same array, over the extended reals. -/
theorem algebraic : Cert.algebraic_Kernel7Ideal_Reference7Ideal := fun m ρ m' ρ' _ hag =>
  ⟨fun c => G m c, run_kernel m ρ, (θ_run _ _ _).mono (fun _ h c => ⟨(h c).1.trans (by
    obtain ⟨h0, h1, h2, h3, h4, h5, h6⟩ := hag c
    rw [h0, h1, h2, h3, h4, h5, h6]
    unfold G
    funext i
    idx_vars i
    unfold spec
    pointwise), (h c).2⟩) (Cert.Reference7Ideal.Value.run m' ρ')⟩

end Cert.Proof.Merge
-- ==== Proof.lean ====
/-
  The proof of the certificate's claim: the facts each program states of itself, the frames, then per pair of programs
  what the lift preserves and the algebraic claim, each from its module.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.ChunkAttention
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.FfnFirst
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.FfnLast
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.InProjPlain
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.InProjHeads
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.InProjGate
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Merge
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.SL.Sem

/-- Reference 1 ends on every device with its arguments as they were and every counter at zero. -/
theorem frame_ref1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from a memory that satisfies the precondition. -/
theorem frame_ref1_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Reference 2 ends on every device with its arguments as they were and every counter at zero. -/
theorem frame_ref2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Reference 3 ends on every device with its arguments as they were and every counter at zero. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Reference 4 ends on every device with its arguments as they were and every counter at zero. -/
theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Reference 5 ends on every device with its arguments as they were and every counter at zero. -/
theorem frame_ref5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- Reference 6 ends on every device with its arguments as they were and every counter at zero. -/
theorem frame_ref6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Reference 7 ends on every device with its arguments as they were and every counter at zero. -/
theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Everything the certificate claims. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_ref1,
  frame_ref1_finite,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  ChunkAttention.preserves,
  ChunkAttention.algebraic,
  trivial,
  FfnFirst.algebraic,
  trivial,
  FfnLast.algebraic,
  trivial,
  InProjPlain.algebraic,
  trivial,
  InProjHeads.algebraic,
  trivial,
  InProjGate.algebraic,
  trivial,
  Merge.algebraic⟩

end Cert.Proof

end
